-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_range_and_nonzero_rows [hPre_in_range_and_nonzero_rows : Cert.Pre_in_range_and_nonzero_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_nonzero_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_nonzero_rows [hPre_in_range_and_nonzero_rows : Cert.Pre_in_range_and_nonzero_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_nonzero_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_and_nonzero_rows [hKernelIdeal : Cert.KernelIdeal.Facts] [hPre_in_range_and_nonzero_rows : Cert.Pre_in_range_and_nonzero_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_nonzero_rows m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_and_nonzero_rows [hReferenceIdeal : Cert.ReferenceIdeal.Facts] [hPre_in_range_and_nonzero_rows : Cert.Pre_in_range_and_nonzero_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_nonzero_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_in_range_and_nonzero_rows [hKernelIdeal : Cert.KernelIdeal.Facts] [hReferenceIdeal : Cert.ReferenceIdeal.Facts] [hPre_in_range_and_nonzero_rows : Cert.Pre_in_range_and_nonzero_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_nonzero_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_nonzero_rows : Cert.Pre_in_range_and_nonzero_rows.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_nonzero_rows (hKernelIdeal := hKernelIdeal) (hPre_in_range_and_nonzero_rows := hPre_in_range_and_nonzero_rows)
    ∧ quiescent_ReferenceIdeal (hReferenceIdeal := hReferenceIdeal)
    ∧ quiescent_ReferenceIdeal_pre_in_range_and_nonzero_rows (hReferenceIdeal := hReferenceIdeal) (hPre_in_range_and_nonzero_rows := hPre_in_range_and_nonzero_rows)
    ∧ preserves_Kernel_KernelIdeal
    ∧ algebraic_KernelIdeal_ReferenceIdeal_pre_in_range_and_nonzero_rows (hKernelIdeal := hKernelIdeal) (hReferenceIdeal := hReferenceIdeal) (hPre_in_range_and_nonzero_rows := hPre_in_range_and_nonzero_rows)
-- ==== Pre_in_range.lean ====
abbrev S4096x128 : Shape := ⟨2, ![4096, 128]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S4096x128 .f32) (main_arg1 : IVec S4096 32) (main_arg2 : IVec S_ 32) (main_arg3 : FVec F S4096x128 .f32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 4096#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_in_range_and_nonzero_rows.lean ====
abbrev S4096x128 : Shape := ⟨2, ![4096, 128]⟩
abbrev S4096 : Shape := ⟨1, ![4096]⟩
abbrev S_ : Shape := ⟨0, ![]⟩

class Facts : Prop where
  reducesTo_S4096x128_S4096_d1 : S4096x128.ReducesTo [1] S4096
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v10 : IVec S_ 1) (main_v15 : IVec S4096 1) : IVec S_ 1 :=
  let main_c_6 : IVec S_ 1 := constantI S_ 1 1#1
  let main_v16 : IVec S_ 1 := (fun x v => Host.reduce IntOp.andi x v reducesTo_S4096_S_d0 h_S_) main_v15 main_c_6
  let main_v17 : IVec S_ 1 := andi main_v16 main_v10
  main_v17

def fn {F : FTy → Type} [FloatOps F] (main_arg0 : FVec F S4096x128 .f32) (main_arg1 : IVec S4096 32) (main_arg2 : IVec S_ 32) (main_arg3 : FVec F S4096x128 .f32) : IVec S_ 1 :=
  let main_v0 : FVec F S4096x128 .f32 := mulf main_arg0 main_arg0
  let main_cst : FVec F S_ .f32 := constant S_ .f32 0x00000000#32
  let main_v1 : FVec F S4096 .f32 := (fun x v => Host.reduceAdd x v reducesTo_S4096x128_S4096_d1 h_S_) main_v0 main_cst
  let main_cst_0 : FVec F S_ .f32 := constant S_ .f32 0x00000000#32
  let main_v2 : FVec F S4096 .f32 := broadcastInDim S4096 ![] bcast_S_S4096 main_cst_0
  let main_v3 : IVec S4096 1 := cmpf .ogt main_v1 main_v2
  let main_c : IVec S_ 1 := constantI S_ 1 1#1
  let main_v4 : IVec S_ 1 := (fun x v => Host.reduce IntOp.andi x v reducesTo_S4096_S_d0 h_S_) main_v3 main_c
  let main_v5 : FVec F S4096x128 .f32 := mulf main_arg3 main_arg3
  let main_cst_1 : FVec F S_ .f32 := constant S_ .f32 0x00000000#32
  let main_v6 : FVec F S4096 .f32 := (fun x v => Host.reduceAdd x v reducesTo_S4096x128_S4096_d1 h_S_) main_v5 main_cst_1
  let main_cst_2 : FVec F S_ .f32 := constant S_ .f32 0x00000000#32
  let main_v7 : FVec F S4096 .f32 := broadcastInDim S4096 ![] bcast_S_S4096 main_cst_2
  let main_v8 : IVec S4096 1 := cmpf .ogt main_v6 main_v7
  let main_c_3 : IVec S_ 1 := constantI S_ 1 1#1
  let main_v9 : IVec S_ 1 := (fun x v => Host.reduce IntOp.andi x v reducesTo_S4096_S_d0 h_S_) main_v8 main_c_3
  let main_v10 : IVec S_ 1 := andi main_v4 main_v9
  let main_c_4 : IVec S_ 32 := constantI S_ 32 0#32
  let main_v11 : IVec S4096 32 := broadcastInDim S4096 ![] bcast_S_S4096 main_c_4
  let main_v12 : IVec S4096 1 := cmpi .sge main_arg1 main_v11
  let main_c_5 : IVec S_ 32 := constantI S_ 32 4096#32
  let main_v13 : IVec S4096 32 := broadcastInDim S4096 ![] bcast_S_S4096 main_c_5
  let main_v14 : IVec S4096 1 := cmpi .slt main_arg1 main_v13
  let main_v15 : IVec S4096 1 := andi main_v12 main_v14
  fn_part1 (F := F) main_v10 main_v15
-- ==== Kernel.lean ====
abbrev S4096x128 : Shape := ⟨2, ![4096, 128]⟩
abbrev S4096 : Shape := ⟨1, ![4096]⟩
abbrev S_ : Shape := ⟨0, ![]⟩
abbrev S128 : Shape := ⟨1, ![128]⟩
abbrev S128x128 : Shape := ⟨2, ![128, 128]⟩
abbrev S1x1 : Shape := ⟨2, ![1, 1]⟩
abbrev S2048x128 : Shape := ⟨2, ![2048, 128]⟩
abbrev S4096x1 : Shape := ⟨2, ![4096, 1]⟩
abbrev S1x4096x128 : Shape := ⟨3, ![1, 4096, 128]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S256x128 : Shape := ⟨2, ![256, 128]⟩
abbrev S4096x256 : Shape := ⟨2, ![4096, 256]⟩
abbrev S1x4096x256 : Shape := ⟨3, ![1, 4096, 256]⟩

abbrev nBuf : Table → Nat
  | .hbm => 7
  | .local .tc .vmem => 7
  | .local .scVector .vmem => 2
  | _ => 0

abbrev bufTy : (tb : Table) → Fin (nBuf tb) → BufTy
  | .hbm, ⟨0, _⟩ => ⟨S4096x128, .f32⟩
  | .hbm, ⟨1, _⟩ => ⟨S4096, .i32⟩
  | .hbm, ⟨2, _⟩ => ⟨S_, .i32⟩
  | .hbm, ⟨3, _⟩ => ⟨S4096x128, .f32⟩
  | .hbm, ⟨4, _⟩ => ⟨S4096x128, .f32⟩
  | .hbm, ⟨5, _⟩ => ⟨S1x1, .f32⟩
  | .hbm, ⟨6, _⟩ => ⟨S_, .f32⟩
  | .local .tc .vmem, ⟨0, _⟩ => ⟨S2048x128, .f32⟩
  | .local .tc .vmem, ⟨1, _⟩ => ⟨S2048x128, .f32⟩
  | .local .tc .vmem, ⟨2, _⟩ => ⟨S4096x128, .f32⟩
  | .local .tc .vmem, ⟨3, _⟩ => ⟨S4096x128, .f32⟩
  | .local .tc .vmem, ⟨4, _⟩ => ⟨S1x1, .f32⟩
  | .local .tc .vmem, ⟨5, _⟩ => ⟨S4096x128, .bf16⟩
  | .local .tc .vmem, ⟨6, _⟩ => ⟨S4096x128, .bf16⟩
  | .local .scVector .vmem, ⟨0, _⟩ => ⟨S128, .i32⟩
  | .local .scVector .vmem, ⟨1, _⟩ => ⟨S128x128, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_arg3_scv : Ref sig .scVector := ⟨.hbm, 3, rfl⟩
abbrev main_arg1_scv : Ref sig .scVector := ⟨.hbm, 1, rfl⟩
abbrev main_v0_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_scratch0 : Ref sig .tc := ⟨.vmem, 5, rfl⟩
abbrev cc1_scratch1 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4096x128 : Shape := ⟨2, ![4096, 128]⟩
abbrev S4096 : Shape := ⟨1, ![4096]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S128x4096 : Shape := ⟨2, ![128, 4096]⟩
abbrev S4096x4096 : Shape := ⟨2, ![4096, 4096]⟩

abbrev nBuf : Space → Nat
  | .hbm => 97
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S_, .i32⟩
  | .hbm, ⟨3, _⟩ => ⟨S4096x128, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x128, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x1, .f32⟩
  | .hbm, ⟨49, _⟩ => ⟨S4096x128, .f32⟩
  | .hbm, ⟨50, _⟩ => ⟨S4096x128, .f32⟩
  | .hbm, ⟨51, _⟩ => ⟨S128x4096, .f32⟩
  | .hbm, ⟨52, _⟩ => ⟨S4096x4096, .f32⟩
  | .hbm, ⟨53, _⟩ => ⟨S128x4096, .f32⟩
  | .hbm, ⟨54, _⟩ => ⟨S4096x4096, .f32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S_, .i32⟩
  | .hbm, ⟨59, _⟩ => ⟨S4096, .i32⟩
  | .hbm, ⟨60, _⟩ => ⟨S4096, .i32⟩
  | .hbm, ⟨61, _⟩ => ⟨S4096, .i32⟩
  | .hbm, ⟨62, _⟩ => ⟨S4096x1, .i32⟩
  | .hbm, ⟨63, _⟩ => ⟨S1, .i32⟩
  | .hbm, ⟨64, _⟩ => ⟨S_, .i32⟩
  | .hbm, ⟨65, _⟩ => ⟨S4096x1, .i32⟩
  | .hbm, ⟨66, _⟩ => ⟨S4096x1, .i1⟩
  | .hbm, ⟨67, _⟩ => ⟨S1x1, .i32⟩
  | .hbm, ⟨68, _⟩ => ⟨S4096x1, .i32⟩
  | .hbm, ⟨69, _⟩ => ⟨S4096x1, .i1⟩
  | .hbm, ⟨70, _⟩ => ⟨S4096x1, .i1⟩
  | .hbm, ⟨71, _⟩ => ⟨S_, .i1⟩
  | .hbm, ⟨72, _⟩ => ⟨S4096, .i1⟩
  | .hbm, ⟨73, _⟩ => ⟨S4096x4096, .f32⟩
  | .hbm, ⟨74, _⟩ => ⟨S4096x4096, .i1⟩
  | .hbm, ⟨75, _⟩ => ⟨S_, .f32⟩
  | .hbm, ⟨76, _⟩ => ⟨S4096x4096, .f32⟩
  | .hbm, ⟨77, _⟩ => ⟨S4096x4096, .f32⟩
  | .hbm, ⟨78, _⟩ => ⟨S_, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S4096x4096, .f32⟩
  | .hbm, ⟨86, _⟩ => ⟨S4096x4096, .f32⟩
  | .hbm, ⟨87, _⟩ => ⟨S4096x4096, .f32⟩
  | .hbm, ⟨88, _⟩ => ⟨S_, .f32⟩
  | .hbm, ⟨89, _⟩ => ⟨S4096, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_cst : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_call2_v0 : Ref sig .tc := ⟨.hbm, 44, rfl⟩
abbrev main_call2_cst : Ref sig .tc := ⟨.hbm, 45, rfl⟩
abbrev main_call2_v1 : Ref sig .tc := ⟨.hbm, 46, rfl⟩
abbrev main_call2_v2 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_call3_c : Ref sig .tc := ⟨.hbm, 55, rfl⟩
abbrev main_call3_v0 : Ref sig .tc := ⟨.hbm, 56, rfl⟩
abbrev main_call3_v1 : Ref sig .tc := ⟨.hbm, 57, rfl⟩
abbrev main_call3_c_0 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_call3_v5 : Ref sig .tc := ⟨.hbm, 62, rfl⟩
abbrev main_call3_c_1 : Ref sig .tc := ⟨.hbm, 63, rfl⟩
abbrev main_call3_c_2 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_3 : Ref sig .tc := ⟨.hbm, 71, rfl⟩
abbrev main_call3_v12 : Ref sig .tc := ⟨.hbm, 72, rfl⟩
abbrev main_call3_v13 : Ref sig .tc := ⟨.hbm, 73, rfl⟩
abbrev main_call3_v14 : Ref sig .tc := ⟨.hbm, 74, rfl⟩
abbrev main_call3_cst : Ref sig .tc := ⟨.hbm, 75, rfl⟩
abbrev main_call3_v15 : Ref sig .tc := ⟨.hbm, 76, rfl⟩
abbrev main_v17 : Ref sig .tc := ⟨.hbm, 77, rfl⟩
abbrev main_cst_3 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_cst_4 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst_5 : Ref sig .tc := ⟨.hbm, 88, rfl⟩
abbrev main_v26 : Ref sig .tc := ⟨.hbm, 89, rfl⟩
abbrev main_cst_6 : Ref sig .tc := ⟨.hbm, 90, rfl⟩
abbrev main_v27 : Ref sig .tc := ⟨.hbm, 91, rfl⟩
abbrev main_cst_7 : Ref sig .tc := ⟨.hbm, 92, rfl⟩
abbrev main_v28 : Ref sig .tc := ⟨.hbm, 93, rfl⟩
abbrev main_cst_8 : Ref sig .tc := ⟨.hbm, 94, rfl⟩
abbrev main_v29 : Ref sig .tc := ⟨.hbm, 95, rfl⟩
abbrev main_v30 : Ref sig .tc := ⟨.hbm, 96, rfl⟩

abbrev nD : Nat := 1
abbrev τ : Topo := Topo.v7x

variable {F : FTy → Type} [FloatOps F]
-- ==== Proof.KernelIdealBase.lean ====
/-
  What every module about the run of `KernelIdeal` shares: the program as the SparseCore launch theorem reads it, and the
  ghost state of the proof (the handshakes' rounds, the pipeline's rounds, the transfers' counters).
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.Regions
public import Idealize.ShloMosaic.Lib.WordCmp
public import Idealize.ShloMosaic.Lib.Tactic

@[expose] public section

noncomputable section

namespace Cert.KernelIdeal.Run

open Cert.KernelIdeal Cert.KernelIdeal.Gen

open Idealize.ShloMosaic
open Idealize.ShloMosaic.SparseCore.Cfg (HIx)
open Idealize.SL Idealize.SL.RA Idealize.SL.BI Idealize.SL.Sem
open Idealize.ShloMosaic.Rounds

variable {F : FTy → Type} [FloatOps F] [Named F]

/-- The labels of the program below the SparseCore calls: the kernels' own and the one pipeline's. -/
abbrev ΛP : Labels := Pipeline.Sig Λ₀ (Fin 1) fun p => (pcfgs (F := F) p).Adm
/-- The SparseCore configuration: one call, two SparseCores of sixteen vector subcores. -/
abbrev K : SparseCore.Cfg τ sig (ΛP (F := F)) 1 := sc (F := F)
/-- The body table below the SparseCore calls. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on both SparseCores, -/
theorem nCore_zero : (K (F := F)).nCore 0 = 2 := rfl
/-- on all sixteen vector subcores of each. -/
theorem nSub_zero : (K (F := F)).nSub 0 = 16 := rfl

/-- The handshakes' semaphores are distinct and unscoped, and no SparseCore buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, -/
abbrev UH : Type := URounds (GSem nD τ sig) ℕ
/-- the pipeline's rounds, -/
abbrev UP : Type := URounds (GSem nD τ sig) Unit
/-- and the transfers' counters, side by side. -/
abbrev UU : Type := UH × (UP × Counters)

/-- The machine's resources with that ghost state. -/
abbrev MM (F : FTy → Type) : Type := MT nD τ sig (HIx 1) (Elt F) ℕ UU ℕ

/-- The handshakes' part of the ghost state, -/
abbrev EH : Emb UH (MT nD τ sig (HIx 1) (Elt F) ℕ UU ℕ) := embL
/-- and the pipeline's. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

end Cert.KernelIdeal.Run

end
-- ==== Proof.KernelIdealBody.lean ====
/-
  The TensorCore kernel's body, run once at the first point of its grid and once at a later one: what it leaves in its
  two scratch buffers and in its one-word output, as functions of what it was handed.
-/
module

public import proofs.«01_k».proof.Proof.KernelIdealBase
public import Idealize.ShloMosaic.Lib.VecWindow

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- The word the body adds up at a point: `acc` plus the tile's share of the sum of squared differences, the tile `xm` of the
    matrix against the normalised centers `cn` and rows `xn`. -/
def stepOut (xm : Vec F S2048x128 .f32) (cn xn : Vec F S4096x128 .bf16) (acc : Vec F S1x1 .f32) : Vec F S1x1 .f32 :=
  k1_pay1 (k1_pay6 xm) cn xn
    (k1_pay9 (k1_pay6 xm) cn xn (k1_pay7 xm cn xn) (k1_pay8 xm) (constant S4096x256 .f32 0x00000000#32))
    (k1_pay10 (k1_pay6 xm)) (constant S4096x256 .f32 0x00000000#32) acc

/-- The condition under which the body fills its scratch buffers: the point is the first. -/
abbrev atFirst (i : grid1.Coords) : Prop := (Scalar.cmpi .ne (Scalar.extui (Scalar.cmpi .eq (BitVec.ofNat 32 (i 0).val) 0#32)) 0#32) = 1#1

set_option maxHeartbeats 1000000 in
/-- At the first point: the scratch buffers end at the normalised rows and centers, the output at the first tile's share added to
    the term of the normalised rows against the centers. -/
theorem body_first (c : Dev nD) (i : grid1.Coords) (arg1 : Memref sig .tc .vmem S2048x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1 .f32) (harg4 : arg4.IsWhole) (arg5 : Memref sig .tc .vmem S4096x128 .bf16) (harg5 : arg5.IsWhole) (arg6 : Memref sig .tc .vmem S4096x128 .bf16) (harg6 : arg6.IsWhole) (hc0 : atFirst i)
    (x0 : Vec F S2048x128 .f32) (x1 : Vec F S4096x128 .f32) (x2 : Vec F S4096x128 .f32) (Q : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (stepOut x0 (k1_pay4 x2) (k1_pay3 x1) (k1_pay5 x1 x2))
            ∗ owns (c : Thread nD τ) arg5 fullShare (k1_pay3 x1) ∗ owns (c : Thread nD τ) arg6 fullShare (k1_pay4 x2)) -∗ Q ⟨⟩))
      ⊢ wp frame (wpE (defs₀ (F := F)) Variants.none c none) Set.univ (cc1__loss_kernel i arg1 harg1 arg2 harg2 arg3 harg3 arg4 harg4 arg5 harg5 arg6 harg6) Q := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    unfold body_first.sl.H3_1 body_first.sl.v111 body_first.sl.v13 body_first.sl.v14 body_first.sl.r_3 body_first.sl.r_4 body_first.sl.r body_first.sl.cst_14
    unfold body_first.sl.r_1 body_first.sl.r_2 body_first.sl.v13 body_first.sl.v14 body_first.sl.H3_1 body_first.sl.HS0_1 body_first.sl.HS1_1
    refine (View.read_writes_full arg4.view f3 inb_S1x1_S1x1_0_0 _ _).trans ?_
    rw [show ∀ L, arg4.view.readCov (Val := Elt F) L (Rect.unit ![0, 0] ![1, 1] inb_S1x1_S1x1_0_0).toLoadRect = arg4.view.readCov L (Rect.unit ![0, 0] S1x1.size inb_S1x1_S1x1_0_0).toLoadRect from fun _ => rfl]
    rw [View.readCov_full arg4.view, View.readCov_full arg5.view, View.readCov_full arg6.view]
    rw [View.readAt_full arg1.view, View.readAt_full arg2.view, View.readAt_full arg3.view]
    rw [harg1.read_unread, harg2.read_unread, harg3.read_unread]
    rfl
  isplitl [HS0]
  · iexists _; isplitr; swap; · iexact HS0
    ipureintro
    unfold body_first.sl.HS0_1
    refine (View.read_writes_full arg5.view fs0 inb_S4096x128_S4096x128_0_0 _ _).trans ?_
    rw [View.readAt_full, harg2.read_unread]
  iexists _; isplitr; swap; · iexact HS1
  ipureintro
  unfold body_first.sl.HS1_1
  refine (View.read_writes_full arg6.view fs1 inb_S4096x128_S4096x128_0_0 _ _).trans ?_
  rw [View.readAt_full, harg3.read_unread]

set_option maxHeartbeats 1000000 in
/-- At a later point: the scratch buffers stay as they are, and the output, at `acc`, gains the tile's share. -/
theorem body_next (c : Dev nD) (i : grid1.Coords) (arg1 : Memref sig .tc .vmem S2048x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x1 .f32) (harg4 : arg4.IsWhole) (arg5 : Memref sig .tc .vmem S4096x128 .bf16) (harg5 : arg5.IsWhole) (arg6 : Memref sig .tc .vmem S4096x128 .bf16) (harg6 : arg6.IsWhole) (hc0 : ¬ atFirst i)
    (x0 : Vec F S2048x128 .f32) (x1 : Vec F S4096x128 .f32) (x2 : Vec F S4096x128 .f32) (acc : Vec F S1x1 .f32) (xn cn : Vec F S4096x128 .bf16) (Q : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare acc ∗ owns (c : Thread nD τ) arg5 fullShare xn ∗ owns (c : Thread nD τ) arg6 fullShare cn
        ∗ (iprop(owns (c : Thread nD τ) arg1 fullShare x0 ∗ owns (c : Thread nD τ) arg2 fullShare x1 ∗ owns (c : Thread nD τ) arg3 fullShare x2
            ∗ owns (c : Thread nD τ) arg4 fullShare (stepOut x0 cn xn acc)
            ∗ owns (c : Thread nD τ) arg5 fullShare xn ∗ owns (c : Thread nD τ) arg6 fullShare cn) -∗ Q ⟨⟩))
      ⊢ wp frame (wpE (defs₀ (F := F)) Variants.none c none) Set.univ (cc1__loss_kernel i arg1 harg1 arg2 harg2 arg3 harg3 arg4 harg4 arg5 harg5 arg6 harg6) Q := by
  simp only [cc1__loss_kernel_eq_skeleton]; unfold cc1__loss_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hfs0; obtain rfl := harg6.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    unfold body_next.sl.r body_next.sl.r_1 body_next.sl.r_2 body_next.sl.r_5 body_next.sl.r_6 body_next.sl.cst_14
    unfold body_next.sl.r_3 body_next.sl.r_4
    unfold body_next.sl.r body_next.sl.r_1 body_next.sl.r_2
    refine (View.read_writes_full arg4.view _ inb_S1x1_S1x1_0_0 _ _).trans ?_
    rw [show ∀ f, arg4.view.readAt (Elt F) (Rect.unit ![0, 0] ![1, 1] inb_S1x1_S1x1_0_0).toLoadRect f = arg4.view.readAt (Elt F) (Rect.unit ![0, 0] S1x1.size inb_S1x1_S1x1_0_0).toLoadRect f from fun _ => rfl]
    rw [View.readAt_full arg1.view, View.readAt_full arg5.view, View.readAt_full arg6.view, View.readAt_full arg4.view]
    rw [harg1.read_unread, harg4.read_unread, harg5.read_unread, harg6.read_unread]
    rfl
  isplitl [HS0]
  · iexists _; isplitr; · ipureintro; exact harg5.read_unread _
    iexact HS0
  iexists _; isplitr; · ipureintro; exact harg6.read_unread _
  iexact HS1

end Cert.KernelIdeal.Run

end
-- ==== Proof.KernelIdealRegion.lean ====
/-
  The TensorCore kernel as a region of the program: what its pipeline carries from point to point, the body's obligation
  at each of its two points, and what the region leaves in its one-word output.
-/
module

public import proofs.«01_k».proof.Proof.KernelIdealBody
public import Idealize.ShloMosaic.Lib.Pipeline.Value

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig (HIx 1) (Elt F) ℕ UU ℕ

-- the TensorCores' buffers when the region is entered, core by core
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first scratch buffer after the first point: the normalised rows. -/
def scr0 (c : Dev nD) : Vec F S4096x128 .bf16 := k1_pay3 (iblk V c 1 t1_0)
/-- The second: the normalised centers. -/
def scr1 (c : Dev nD) : Vec F S4096x128 .bf16 := k1_pay4 (iblk V c 2 t1_0)

/-- The output word after point `n`. -/
def outAt (c : Dev nD) : (n : ℕ) → n < cfg1.N → Vec F S1x1 .f32
  | 0, h => stepOut (iblk V c 0 ⟨0, h⟩) (scr1 V c) (scr0 V c) (k1_pay5 (iblk V c 1 t1_0) (iblk V c 2 t1_0))
  | n + 1, h => stepOut (iblk V c 0 ⟨n + 1, h⟩) (scr1 V c) (scr0 V c) (outAt c n (Nat.lt_of_succ_lt h))

/-- The scratch buffers as whole memrefs. -/
abbrev scM0 : Memref sig .tc .vmem S4096x128 .bf16 := Memref.whole cc1_scratch0
abbrev scM1 : Memref sig .tc .vmem S4096x128 .bf16 := Memref.whole cc1_scratch1

/-- The invariant before position `n`: the scratch buffers at anything before the first point, afterwards at the normalised
    rows and centers. -/
def inv (c : Dev nD) : (n : ℕ) → n ≤ cfg1.N → sProp 𝕄
  | 0, _ => Pipeline.scopedRest spec1 c
  | _ + 1, _ => iprop(owns (c : Thread nD τ) scM0 fullShare (scr0 V c) ∗ owns (c : Thread nD τ) scM1 fullShare (scr1 V c))

theorem inv_zero (c : Dev nD) (n : ℕ) (h : n ≤ cfg1.N) (hz : n = 0) : inv V c n h = Pipeline.scopedRest spec1 c := by
  subst hz; rfl
theorem inv_pos (c : Dev nD) (n : ℕ) (h : n ≤ cfg1.N) (hz : n ≠ 0) :
    inv V c n h = iprop(owns (c : Thread nD τ) scM0 fullShare (scr0 V c) ∗ owns (c : Thread nD τ) scM1 fullShare (scr1 V c)) := by
  cases n with
  | zero => exact absurd rfl hz
  | succ n => rfl

/-- The scoped buffers no window stages are the two scratch buffers, owned at anything. -/
theorem rest_eq (c : Dev nD) :
    (Pipeline.scopedRest spec1 c : sProp 𝕄) = iprop((∃ d, owns (c : Thread nD τ) scM0 fullShare d) ∗ (∃ d, owns (c : Thread nD τ) scM1 fullShare d)) := by
  rw [scopedRest1_eq]; simp only [scM0, scM1, owns_whole]; try rfl

/-- The pairs of own semaphore and index the core has waited on when the region starts: those of the one call before it. -/
def recs (c : Dev nD) : Set (SemLoc sig × HIx 1) := {p | (K (F := F)).lev ((c : Thread nD τ), p.1) p.2 ≤ 8 * 1}

/-- The region's proof data on core `c`: the arrays as the region finds them; after the body each input's buffer at its block
    and the output's at `outAt`; nothing owed; full shares. -/
def dats (_ : Fin 1) (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outAt V c t.val t.isLt
  Φ t := inv V c t.val (Nat.le_of_lt_succ t.isLt)
  q _ := fullShare
  owed _ := 0
  recorded _ := recs (F := F) c

theorem A_eq (c : Dev nD) (w : Fin cfg1.W) : (dats V 0 c).A w = V c (Pipeline.arrRef spec1 w) := by dsimp only [dats]
theorem inv_castSucc (c : Dev nD) (t : Fin cfg1.N) : (dats V 0 c).Φ t.castSucc = inv V c t.val (Nat.le_of_lt t.isLt) := by
  dsimp only [dats]; exact Pipeline.Dat.Φ_castSucc (inv V c) t
theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
theorem after_3 (c : Dev nD) (t : Fin cfg1.N) : (dats V 0 c).after 3 t = outAt V c t.val t.isLt := by dsimp only [dats]

/-- An input's current staging buffer holds its block at every point, fetched there or not. -/
theorem before_0 (c : Dev nD) (t : Fin cfg1.N) (d) : (dats V 0 c).before 0 t d = iblk V c 0 t :=
  ((dats V 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin cfg1.N) (d) : (dats V 0 c).before 1 t d = iblk V c 1 t :=
  ((dats V 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin cfg1.N) (d) : (dats V 0 c).before 2 t d = iblk V c 2 t :=
  ((dats V 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)

/-- At the second point the output's staging buffer still holds what the first left. -/
theorem before_3 (c : Dev nD) (t : Fin cfg1.N) (h0 : t.val ≠ 0) (d) :
    (dats V 0 c).before 3 t d = outAt V c (t.val - 1) (Nat.lt_of_le_of_lt (Nat.sub_le _ _) t.isLt) := by
  have hN : t.val < 2 := lt_of_lt_of_eq t.isLt (show cfg1.N = 2 from N_1)
  rw [Dat.before_out_kept _ 3 rfl t h0 (Bool.eq_false_iff.mpr fun h => by have := (flush1_3 _).mp h; dsimp only at this; omega)
    (fun _ => rfl) (fun _ _ => rfl)]
  dsimp only [dats]

/-- The body fills its scratch buffers at the first point and at no other. -/
theorem atFirst_iff : ∀ t : Fin cfg1.N, atFirst (grid1.coords t) ↔ t.val = 0 :=
  (fun t => by
    have ht : t.val < 2 := Nat.lt_of_lt_of_eq t.isLt N_1
    have e0 : (grid1.coords t 0).val = t.val / 1 % 2 := Pipeline.Grid.coords_val t 0 (by decide) rfl
    simp only [atFirst, e0]
    word_cmp
   : ∀ t : Fin grid1.N, atFirst (grid1.coords t) ↔ t.val = 0)

/-- What the body is called with at point `t`, -/
def bodyPre (c : Dev nD) (t : Fin cfg1.N) : sProp 𝕄 :=
  iprop((dats V 0 c).Φ t.castSucc ∗ (dats V 0 c).owesAt none t.castSucc
    ∗ (∃ d, owns (c : Thread nD τ) (st1_0 t) fullShare ((dats V 0 c).before 0 t d))
    ∗ (∃ d, owns (c : Thread nD τ) (st1_1 t) fullShare ((dats V 0 c).before 1 t d))
    ∗ (∃ d, owns (c : Thread nD τ) (st1_2 t) fullShare ((dats V 0 c).before 2 t d))
    ∗ (∃ d, owns (c : Thread nD τ) (st1_3 t) fullShare ((dats V 0 c).before 3 t d)))
/-- and what it returns. -/
def bodyPost (c : Dev nD) (t : Fin cfg1.N) : sProp 𝕄 :=
  iprop((dats V 0 c).Φ t.succ ∗ (dats V 0 c).owesAt none t.succ
    ∗ owns (c : Thread nD τ) (st1_0 t) fullShare ((dats V 0 c).after 0 t)
    ∗ owns (c : Thread nD τ) (st1_1 t) fullShare ((dats V 0 c).after 1 t)
    ∗ owns (c : Thread nD τ) (st1_2 t) fullShare ((dats V 0 c).after 2 t)
    ∗ owns (c : Thread nD τ) (st1_3 t) fullShare ((dats V 0 c).after 3 t))

set_option maxHeartbeats 1600000 in
/-- The body at a point: by the run of its case, the scratch buffers and the output handed over at what the point before left. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dats V 0 c).owesAt none t.succ = (dats V 0 c).owesAt none t.castSucc from rfl, after_0, after_1, after_2, after_3]
  rw [show (dats V 0 c).Φ t.succ = inv V c (t.val + 1) t.isLt from rfl, inv_castSucc, inv_pos V c (t.val + 1) _ (Nat.succ_ne_zero _)]
  by_cases hz : t.val = 0
  · rw [inv_zero V c _ _ hz, rest_eq]
    have ht : t = t1_0 := Fin.ext hz
    subst ht
    iintro ⟨⟨HS0, HS1⟩, Ho, ⟨%d0, H0⟩, ⟨%d1, H1⟩, ⟨%d2, H2⟩, ⟨%d3, H3⟩⟩
    iapply (body_first c (grid1.coords t1_0) _ _ _ _ _ _ _ _ _ _ _ _ ((atFirst_iff t1_0).mpr hz) (iblk V c 0 t1_0) (iblk V c 1 t1_0) (iblk V c 2 t1_0))
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    iexact H3
  · rw [inv_pos V c _ _ hz]
    simp only [before_3 V c t hz]
    have hout : outAt V c t.val t.isLt = stepOut (iblk V c 0 t) (scr1 V c) (scr0 V c) (outAt V c (t.val - 1) (Nat.lt_of_le_of_lt (Nat.sub_le _ _) t.isLt)) := by
      obtain ⟨n, hn⟩ := t
      cases n with
      | zero => exact absurd rfl hz
      | succ n => rfl
    rw [hout]
    iintro ⟨⟨HS0, HS1⟩, Ho, ⟨%d0, H0⟩, ⟨%d1, H1⟩, ⟨%d2, H2⟩, ⟨%d3, H3⟩⟩
    iapply (body_next c (grid1.coords t) _ _ _ _ _ _ _ _ _ _ _ _ (fun h => hz ((atFirst_iff t).mp h)) (iblk V c 0 t) (iblk V c 1 t) (iblk V c 2 t) _ _ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    iexact H3

/-- The body table's row at point `t`'s slots is the kernel at those staging buffers. -/
theorem defs₀_row (t : Fin cfg1.N) : defs₀ (F := F) .tc cfg1.body (cfg1.bodyArgs t (cfg1.slots t)) = bodyAt1 t := by
  rfl

/-- The body's obligation at every point. -/
theorem body_obligation (c : Dev nD) : BodyObligation (dats V 0 c) (defs₀ (F := F)) Variants.none none Set.univ := fun t => by
  rw [bigSep_W1, bigSep_W1, defs₀_row]
  exact triple_restated (sound_body V c t) rfl .rfl fun _ => .rfl

/-! ## The region -/

/-- No table is prefetched. -/
abbrev adm : (p : Fin 1) → (pcfgs (F := F) p).Adm := fun p => (cfgs p).toPCfg_adm

/-- The arrays at the contents the proof data names, buffer by buffer. -/
theorem arrays_at (c : Dev nD) (f : (w : Fin cfg1.W) → Buf (Elt F) ((cfg1.win w).arr.view.loc (c.tc : Thread nD τ))) :
    ((dats V 0 c).arrays f : sProp 𝕄) = iprop((((c : Thread nD τ).loc main_arg3) ↦{fullShare} f 0) ∗ (((c : Thread nD τ).loc main_arg0) ↦{fullShare} f 1)
      ∗ (((c : Thread nD τ).loc main_v0) ↦{fullShare} f 2) ∗ (((c : Thread nD τ).loc main_v1) ↦{fullShare} f 3)) :=
  (Pipeline.arrays_eq (cfgs) (fun p => dats V p) 0 c arr_whole1 ((dats V 0 c).share_full fun _ => rfl) f).trans (bigSep_W1 _)

/-- The one-word array has one index. -/
theorem idx_one (i j : S1x1.Idx) : i = j := by
  funext a; apply Fin.ext
  have hi := (i a).isLt; have hj := (j a).isLt
  have h1 : S1x1.size a = 1 := by fin_cases a <;> rfl
  omega

/-- What the region leaves in its output: the word after the second point, in every cell. -/
theorem out_final (c : Dev nD) : (dats V 0 c).arrAt 3 cfg1.N = fun i => outAt V c 1 (by rw [show cfg1.N = 2 from N_1]; decide) i := by
  refine (dats V 0 c).arrAt_eq_of_cover 3 _ (fun t hf => ?_) (fun i => ?_)
  · have hN : t.val < 2 := lt_of_lt_of_eq t.isLt (show cfg1.N = 2 from N_1)
    have h1 : t = t1_1 := Fin.ext (by have := (flush1_3 t).mp hf; show t.val = 1; omega)
    subst h1
    show (cfg1.win 3).cut (grid1.coords t1_1) ((dats V 0 c).after 3 t1_1) = _
    rw [after_3]
    funext y
    exact congrArg (outAt V c 1 _) (idx_one _ _)
  · refine ⟨t1_1, (flush1_3 t1_1).mpr rfl, ?_⟩
    have h := ((cfg1.win 3).blk t1_1).view.emb_mem_set (fun a => ⟨0, by revert a; decide⟩)
    rwa [idx_one i _]

/-- The core's `owes`, its recorded waits all of the call before the region: what the region is entered from and left at. -/
def owesB (c : Dev nD) : sProp 𝕄 :=
  iprop(∃ W, ⌜(K (F := F)).WBelow (c : Thread nD τ) W (8 * 1)⌝ ∗ owes (c : Thread nD τ) (0 : CellTallies nD τ sig (HIx 1)) W)

theorem owesB_intro (c : Dev nD) (t : Fin (cfg1.N + 1)) : owesB (F := F) c ⊢ ((dats V 0 c).owesAt none t : sProp 𝕄) := by
  unfold owesB Pipeline.Dat.owesAt Pipeline.owesWithin Pipeline.Dat.bound
  iintro ⟨%W, %hW, HO⟩; iexists W; isplitr
  · ipureintro; exact fun p hp => Or.inl (hW p hp)
  iexact HO

/-- The region's own waits are at the index no debt answers, below every level. -/
theorem owesB_elim (c : Dev nD) (t : Fin (cfg1.N + 1)) : ((dats V 0 c).owesAt none t : sProp 𝕄) ⊢ owesB (F := F) c := by
  unfold owesB Pipeline.Dat.owesAt Pipeline.owesWithin Pipeline.Dat.bound
  iintro ⟨%W, %hW, HO⟩; iexists W; isplitr
  · ipureintro
    intro p hp
    rcases hW hp with h | ⟨w, s, rfl⟩
    · exact h
    · exact Nat.zero_le _
  iexact HO

/-- The arrays of the region as it finds them, and as it leaves them: the output's word after the second point. -/
def arrIn (c : Dev nD) : sProp 𝕄 :=
  iprop((((c : Thread nD τ).loc main_arg3) ↦{fullShare} V c main_arg3) ∗ (((c : Thread nD τ).loc main_arg0) ↦{fullShare} V c main_arg0)
      ∗ (((c : Thread nD τ).loc main_v0) ↦{fullShare} V c main_v0) ∗ (((c : Thread nD τ).loc main_v1) ↦{fullShare} V c main_v1))
def arrOut (c : Dev nD) : sProp 𝕄 :=
  iprop((((c : Thread nD τ).loc main_arg3) ↦{fullShare} V c main_arg3) ∗ (((c : Thread nD τ).loc main_arg0) ↦{fullShare} V c main_arg0)
      ∗ (((c : Thread nD τ).loc main_v0) ↦{fullShare} V c main_v0)
      ∗ (((c : Thread nD τ).loc main_v1) ↦{fullShare} (fun i => outAt V c 1 (by rw [show cfg1.N = 2 from N_1]; decide) i : Buf (Elt F) ((c : Thread nD τ).loc main_v1))))

theorem arrays_out (c : Dev nD) : ((dats V 0 c).arrays ((dats V 0 c).arrAt · cfg1.N) : sProp 𝕄) ⊢ arrOut V c := by
  rw [arrays_at, out_final, (dats V 0 c).arrAt_in 0 rfl, (dats V 0 c).arrAt_in 1 rfl, (dats V 0 c).arrAt_in 2 rfl]
  exact .rfl

theorem arrays_in (c : Dev nD) : arrIn V c ⊢ ((dats V 0 c).arrays ((dats V 0 c).arrAt · 0) : sProp 𝕄) := by
  rw [arrays_at]
  exact .rfl

/-- The pipeline prefetches no table. -/
theorem no_tables (c : Dev nD) (q) (pf) :
    iprop(emp) ⊢ (Pipeline.prefHeld (Ix := HIx 1) (Name := ℕ) (U := UU) (Lvl := ℕ) (Val := Elt F) (pcfgs (F := F) 0).pre c q pf : sProp 𝕄) := by
  unfold Pipeline.prefHeld
  have : IsEmpty (Fin (pcfgs (F := F) 0).pre.K) := inferInstanceAs (IsEmpty (Fin 0))
  rw [Finset.univ_eq_empty, BI.bigSep_empty]
  exact .rfl

/-- The region, as one step of the program between two of its thread states. -/
def region : Pipeline.RegionSeg (pcfgs (F := F)) adm (dats V) none defs₀ 𝒱₀ (K (F := F)).L (K (F := F)).lev 0 where
  win := winFacts1.to₀
  block_pos := block_pos1
  stage_whole := stage_whole1
  K := PEmpty
  osem k := k.elim
  ho := Pipeline.OwnSemFacts.none _
  hbody c := (body_obligation V c).loose
  hwaits := Pipeline.hwaits_of_owed_zero _ _ _ _ _ _ 0 fun _ _ => rfl
  pre c := iprop(owesB (F := F) c ∗ arrIn V c)
  post c := iprop(owesB (F := F) c ∗ arrOut V c)
  X _ := iprop(emp)
  Y _ := iprop(emp)
  Z _ := iprop(emp)
  hentry c := by
    rw [Pipeline.ownSems0_none]
    iintro ⟨⟨HO, HA⟩, -, -⟩
    imodintro
    isplitl [HA]
    · iapply (arrays_in V c); iexact HA
    isplitr; · iapply (no_tables (F := F) c _ _); iempintro
    isplitl [HO]; · iapply (owesB_intro V c 0); iexact HO
    isplitr <;> iempintro
  hin c := by
    rw [show (dats V 0 c).Φ 0 = Pipeline.scopedRest spec1 c from rfl]
    iintro ⟨-, -, HS⟩; iexact HS
  hout c := by
    rw [show (dats V 0 c).Φ (Fin.last cfg1.N) = inv V c cfg1.N le_rfl from rfl, inv_pos V c _ _ (by rw [show cfg1.N = 2 from N_1]; decide), Pipeline.ownSems0_none]
    iintro ⟨HS0, HS1⟩
    isplitr; · iempintro
    isplitr; · iempintro
    iapply (Entails.of_eq (rest_eq (F := F) c).symm)
    isplitl [HS0]; · iexists _; iexact HS0
    iexists _; iexact HS1
  hexit c := by
    iintro ⟨HA, HO, -, -⟩
    imodintro
    isplitl [HO]; · iapply (owesB_elim V c _); iexact HO
    iapply (arrays_out V c); iexact HA

/-- The region's call in the program: from the boundary, nothing owed and the arrays as it finds them, to the arrays as it
    leaves them. -/
theorem wp_region (c : Dev nD) (Φ : PUnit → sProp 𝕄) :
    iprop((iprop(boundary (c : Thread nD τ) ∗ owesB (F := F) c ∗ arrOut V c) -∗ Φ ⟨⟩)
        ∗ boundary (c : Thread nD τ) ∗ (owesB (F := F) c ∗ arrIn V c) ∗ levAts (K (F := F)).L (K (F := F)).lev
        ∗ Pipeline.cellsGhost cfgs EP 0 c ∗ Pipeline.toksInit cfgs EP 0 c)
      ⊢ wp frame (wpE ((K (F := F)).defs (D (F := F))) 𝒱 (c : Thread nD τ) none) Set.univ
          (Prog.lift (.customCall (SparseCore.inner (Pipeline.entry 0)) ())) Φ := by
  have h1 := (K (F := F)).wp_liftProg (D (F := F)) 𝒱 (c : Thread nD τ) Set.univ none
    (.op (.customCall (Pipeline.entry 0) ()) Prog.ret) Φ
  have h2 := Pipeline.RegionSeg.wp (pcfgs (F := F)) adm (dats V) none cellOf_inj EP defs₀ 𝒱₀ _ _ (region V) c none (fun _ h => by cases h) Prog.ret Φ
  refine .trans ?_ (h2.trans h1)
  refine sep_mono ?_ .rfl
  rw [wp_ret]
  iintro Hk Hb
  imodintro
  iapply Hk
  iexact Hb

end Cert.KernelIdeal.Run

end
-- ==== Proof.KernelIdealTile.lean ====
/-
  The SparseCore call of `KernelIdeal`: thirty-two tasks, each fetching its 128 words of the index list, gathering the
  table's rows they name, and writing those rows to its block of the gathered array. The module states what each task
  is handed and brings back, values included, proves the task's body, and splits the arrays over the tasks.
-/
module

public import proofs.«01_k».proof.Proof.KernelIdealBase
public import Idealize.ShloMosaic.Lib.SparseCore.FromWhole
public import Idealize.ShloMosaic.Lib.GluedParts
public import Idealize.ShloMosaic.Lib.Pointwise.Index
public import Idealize.ShloMosaic.Lib.VecWindow

@[expose] public section

set_option maxRecDepth 16384

noncomputable section

namespace Cert.KernelIdeal.Run

open Cert.KernelIdeal Cert.KernelIdeal.Gen

open Idealize.ShloMosaic Idealize.ShloMosaic.Tactic
open Idealize.ShloMosaic.SparseCore (V gatherPayload rows)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

/-! ## The three arrays of the call and the two scratch buffers -/

/-- Where the index list, the table and the gathered array lie. -/
abbrev lIdx (d : Dev nD) : Loc nD τ sig := (SparseCore.T d).loc main_arg1
abbrev lTab (d : Dev nD) : Loc nD τ sig := (SparseCore.T d).loc main_arg3
abbrev lGat (d : Dev nD) : Loc nD τ sig := (SparseCore.T d).loc main_v0

/-- The same arrays as a task addresses them, and its scratch buffers. -/
abbrev mIdx : Memref sig .scVector .hbm S4096 .i32 := Memref.whole main_arg1_scv
abbrev mTab : Memref sig .scVector .hbm S4096x128 .f32 := Memref.whole main_arg3_scv
abbrev mGat : Memref sig .scVector .hbm S4096x128 .f32 := Memref.whole main_v0_scv
abbrev mWords : Memref sig .scVector .vmem S128 .i32 := Memref.whole cc0_scratch0
abbrev mRows : Memref sig .scVector .vmem S128x128 .f32 := Memref.whole cc0_scratch1

/-- The row a word of the index list names. -/
def rowOfWord (w : BitVec 32) : Fin 4096 := ⟨w.toNat % 4096, Nat.mod_lt _ (by decide)⟩

/-- Row `r` of the gathered array is the table's row that word `r` of the index list names. -/
def gathered (idx : S4096.Idx → BitVec 32) (tab : S4096x128.Idx → F .f32) : S4096x128.Idx → F .f32 :=
  fun j => tab (ix2 (n0 := 4096) (n1 := 128) (rowOfWord (idx (ix1 (n0 := 4096) (j 0)))) (j 1))

/-- What the gathered array holds after the call, on device `d`. -/
def gat (d : Dev nD) : Buf (Elt F) (lGat d) := gathered (F := F) (m (lIdx d)) (m (lTab d))

/-- Every word of the index list is below 4096. -/
def InRange : Prop := ∀ (d : Dev nD) (j : S4096.Idx), (m (lIdx d) j).toNat < 4096

/-! ## The thirty-two blocks -/

theorem blocks_idx : 32 ∣ S4096.size 0 := ⟨128, rfl⟩
theorem blocks_gat : 32 ∣ S4096x128.size 0 := ⟨128, rfl⟩

/-- Subcore `s` of SparseCore `c` runs task `2 s + c`. -/
def taskNo (c : Fin 2) (s : Fin 16) : Fin 32 := ⟨2 * s.val + c.val, by omega⟩

/-- The tasks are the pairs of a SparseCore and a subcore. -/
def taskEquiv : Fin 2 × Fin 16 ≃ Fin 32 where
  toFun p := taskNo p.1 p.2
  invFun t := (⟨t.val % 2, Nat.mod_lt _ (by decide)⟩, ⟨t.val / 2, by omega⟩)
  left_inv p := by
    refine Prod.ext (Fin.ext ?_) (Fin.ext ?_)
    · show (2 * p.2.val + p.1.val) % 2 = p.1.val; omega
    · show (2 * p.2.val + p.1.val) / 2 = p.2.val; omega
  right_inv t := Fin.ext (by show 2 * (t.val / 2) + t.val % 2 = t.val; omega)

/-- Task `t`'s words of the index list, and its rows of the gathered array. -/
abbrev bIdx (t : Fin 32) : Rect S4096 := Rect.part (s := S4096) (a₀ := 0) blocks_idx t
abbrev bGat (t : Fin 32) : Rect S4096x128 := Rect.part (s := S4096x128) (a₀ := 0) blocks_gat t

/-- Task `t`'s share of the table. -/
abbrev tabShare (t : Fin 32) : PosShare TreeShare := pieceOf fullShare 32 (by decide) t

/-- The index list's words of task `t`. -/
abbrev ptIdx (d : Dev nD) (t : Fin 32) : sProp 𝕄 := lIdx d ↦[(bIdx t).set]{fullShare} m (lIdx d)
/-- The table, at task `t`'s share. -/
abbrev ptTab (d : Dev nD) (t : Fin 32) : sProp 𝕄 := lTab d ↦{tabShare t} m (lTab d)
/-- Task `t`'s rows of the gathered array, at contents `f`. -/
abbrev ptGat (d : Dev nD) (t : Fin 32) (f : Buf (Elt F) (lGat d)) : sProp 𝕄 := lGat d ↦[(bGat t).set]{fullShare} f

/-- What task `t` works on, the gathered array's rows at `f`. -/
def taskHas (d : Dev nD) (t : Fin 32) (f : Buf (Elt F) (lGat d)) : sProp 𝕄 := iprop(ptIdx m d t ∗ ptTab m d t ∗ ptGat d t f)

instance taskHas_storable (d : Dev nD) (t : Fin 32) (f : Buf (Elt F) (lGat d)) :
    BI.Storable (upEmb : UEmb _ 𝕄) (taskHas m d t f) := by
  unfold taskHas; infer_instance

/-- SparseCore `c`'s sixteen tasks' holdings. -/
def coreHas (d : Dev nD) (c : Fin 2) (f : Buf (Elt F) (lGat d)) : sProp 𝕄 :=
  bigSep Finset.univ fun s : Fin 16 => taskHas m d (taskNo c s) f

instance coreHas_storable (d : Dev nD) (c : Fin 2) (f : Buf (Elt F) (lGat d)) :
    BI.Storable (upEmb : UEmb _ 𝕄) (coreHas m d c f) := by
  unfold coreHas; infer_instance

/-- The three arrays whole are the thirty-two tasks' holdings. -/
theorem arrays_split (d : Dev nD) (f : Buf (Elt F) (lGat d)) :
    (iprop((lIdx d ↦{fullShare} m (lIdx d)) ∗ (lTab d ↦{fullShare} m (lTab d)) ∗ lGat d ↦{fullShare} f) : sProp 𝕄)
      = bigSep Finset.univ fun c : Fin 2 => coreHas m d c f := by
  have hi : (lIdx d ↦{fullShare} m (lIdx d) : sProp 𝕄) = bigSep Finset.univ fun t : Fin 32 => ptIdx m d t := by
    rw [← pointsTo_biUnion Finset.univ (ℓ := lIdx d) (fun t : Fin 32 => (bIdx t).set) (fun _ _ _ _ h => Rect.part_disjoint blocks_idx h),
      Rect.biUnion_part blocks_idx]; try rfl
  have ht : (lTab d ↦{fullShare} m (lTab d) : sProp 𝕄) = bigSep Finset.univ fun t : Fin 32 => ptTab m d t :=
    pointsTo_piecesOf Finset.univ (m (lTab d)) (by decide : 0 < 32) fullShare
  have hg : (lGat d ↦{fullShare} f : sProp 𝕄) = bigSep Finset.univ fun t : Fin 32 => ptGat d t f := by
    rw [← pointsTo_biUnion Finset.univ (ℓ := lGat d) (fun t : Fin 32 => (bGat t).set) (fun _ _ _ _ h => Rect.part_disjoint blocks_gat h),
      Rect.biUnion_part blocks_gat]; try rfl
  rw [hi, ht, hg, ← bigSep_sep', ← bigSep_sep', bigSep_univ_equiv taskEquiv, bigSep_univ_prod]
  rfl

/-! ## What the handshakes carry -/

/-- Each SparseCore is started with its sixteen tasks' holdings and returns them with the rows gathered; it hands each
    subcore its task's. -/
def P : (K (F := F)).Pay (nD := nD) (Val := Elt F) (Name := ℕ) (U := UU) where
  st := fun q d c => match q with | 0 => coreHas m d (Fin.cast nCore_zero c) (m (lGat d))
  dn := fun q d c => match q with | 0 => coreHas m d (Fin.cast nCore_zero c) (gat m d)
  go := fun q d c i => match q with | 0 => taskHas m d (taskNo (Fin.cast nCore_zero c) (Fin.cast nSub_zero i)) (m (lGat d))
  td := fun q d c i => match q with | 0 => taskHas m d (taskNo (Fin.cast nCore_zero c) (Fin.cast nSub_zero i)) (gat m d)
  x := fun _ _ => iprop(emp)

instance P_storable : (P (F := F) m).IsStorable where
  st q d c := match q with | 0 => coreHas_storable m d (Fin.cast nCore_zero c) (m (lGat d))
  dn q d c := match q with | 0 => coreHas_storable m d (Fin.cast nCore_zero c) (gat m d)
  go q d c i := match q with | 0 => taskHas_storable m d (taskNo (Fin.cast nCore_zero c) (Fin.cast nSub_zero i)) (m (lGat d))
  td q d c i := match q with | 0 => taskHas_storable m d (taskNo (Fin.cast nCore_zero c) (Fin.cast nSub_zero i)) (gat m d)

/-- A SparseCore's holdings are its subcores': the split is the definition. -/
theorem vecSplit : (K (F := F)).VecSplit' (P m) 0 := by
  intro d c
  show coreHas m d (Fin.cast nCore_zero c) (m (lGat d)) ⊢ |={Set.univ}=> iprop(
      coreHas m d (Fin.cast nCore_zero c) (m (lGat d)) ∗ (coreHas m d (Fin.cast nCore_zero c) (gat m d) -∗ coreHas m d (Fin.cast nCore_zero c) (gat m d)))
  iintro H; imodintro
  isplitl [H]; · iexact H
  iintro H; iexact H

/-! ## The blocks as a task's kernel addresses them -/

section Task

variable (d : Dev nD) (L : grid0.Coords)

/-- The subcore at coordinates `L`, and its task. -/
abbrev thr : Thread nD τ := V d ((L 0).castLE hcore0) ((L 1).castLE hsub0)
abbrev coreOf (L : grid0.Coords) : Fin 2 := L 0
abbrev subOf (L : grid0.Coords) : Fin 16 := L 1
abbrev tsk (L : grid0.Coords) : Fin 32 := taskNo (coreOf L) (subOf L)

/-- The blocks as the kernel addresses them. -/
abbrev kIdx : Memref sig .scVector .hbm S128 .i32 := mIdx.slice (Rect.unit (s := S4096) (k0_off1 L) S128.size (k0_off1_inb L)) (fun _ => rfl)
abbrev kGat : Memref sig .scVector .hbm S128x128 .f32 := mGat.slice (Rect.unit (s := S4096x128) (k0_off2 L) S128x128.size (k0_off2_inb L)) (fun _ => rfl)
abbrev kTab : Memref sig .scVector .hbm S4096x128 .f32 := mTab.slice (Rect.unit (s := S4096x128) ![0, 0] S4096x128.size inb_S4096x128_S4096x128_0_0) (fun _ => rfl)

/-- The kernel's words are its task's. -/
theorem kIdx_set : (kIdx L).view.set = (bIdx (tsk L)).set := by
  have e : Rect.unit (s := S4096) (k0_off1 L) S128.size (k0_off1_inb L) = bIdx (tsk L) := by
    unfold bIdx Rect.part Rect.block
    congr 1 <;> funext a
    · rw [k0_off1_eq]
      match a with
      | 0 => show 256 * (L 1).val + 128 * (L 0).val = (2 * (L 1).val + (L 0).val) * 128; omega
    · match a with
      | 0 => rfl
  show ((View.whole (main_arg1_scv : Ref sig .scVector)).slice _).set = _
  rw [View.set_slice, e]; exact Finset.map_refl

/-- The kernel's rows are its task's. -/
theorem kGat_set : (kGat L).view.set = (bGat (tsk L)).set := by
  have e : Rect.unit (s := S4096x128) (k0_off2 L) S128x128.size (k0_off2_inb L) = bGat (tsk L) := by
    unfold bGat Rect.part Rect.block
    congr 1 <;> funext a
    · rw [k0_off2_eq]
      match a with
      | 0 => show 256 * (L 1).val + 128 * (L 0).val = (2 * (L 1).val + (L 0).val) * 128; omega
      | 1 => rfl
    · match a with
      | 0 => rfl
      | 1 => rfl
  show ((View.whole (main_v0_scv : Ref sig .scVector)).slice _).set = _
  rw [View.set_slice, e]; exact Finset.map_refl

/-- Word `x` of the block is word `base + x` of the list. -/
theorem kIdx_emb (x : S128.Idx) : ((kIdx L).view.emb x 0).val = 256 * (L 1).val + 128 * (L 0).val + (x 0).val := by
  show k0_off1 L 0 + 1 * (x 0).val = _
  rw [k0_off1_eq, Nat.one_mul]; rfl

/-- Row `x 0` of the block is row `base + x 0` of the array, -/
theorem kGat_emb0 (x : S128x128.Idx) : ((kGat L).view.emb x 0).val = 256 * (L 1).val + 128 * (L 0).val + (x 0).val := by
  show k0_off2 L 0 + 1 * (x 0).val = _
  rw [k0_off2_eq, Nat.one_mul]; rfl

/-- its columns unmoved. -/
theorem kGat_emb1 (x : S128x128.Idx) : ((kGat L).view.emb x 1).val = (x 1).val := by
  show k0_off2 L 1 + 1 * (x 1).val = _
  rw [k0_off2_eq, Nat.one_mul]; exact Nat.zero_add _

/-- The table's whole slice moves nothing. -/
theorem kTab_emb (x : S4096x128.Idx) : kTab.view.emb x = x := by
  funext a
  refine Fin.ext ?_
  match a with
  | 0 => show 0 + 1 * (x 0).val = (x 0).val; omega
  | 1 => show 0 + 1 * (x 1).val = (x 1).val; omega

/-- What the fetch of the words delivers. -/
abbrev words : S128.Idx → Elt F .i32 := (kIdx L).view.read (Elt F) (m (lIdx d))

/-- Word `x` of what the fetch delivers. -/
theorem words_apply (x : S128.Idx) : words m d L x = m (lIdx d) ((kIdx L).view.emb x) := rfl

/-- The words the stream reads out of the scratch are those delivered. -/
theorem fetched (fs : Buf (Elt F) (mWords.view.loc (thr d L))) :
    mWords.view.read (Elt F) (View.write (Elt F) mWords.view fs (words m d L) Finset.univ) = words m d L := by
  rw [View.write_whole_univ]; rfl

/-- They name rows of the table. -/
theorem words_lt (hm : InRange m) (fs : Buf (Elt F) (mWords.view.loc (thr d L))) :
    ∀ x, (mWords.view.read (Elt F) (View.write (Elt F) mWords.view fs (words m d L) Finset.univ) x).toNat
      < S4096x128.size gathers_S4096x128_S128x128.axis := by
  intro x; rw [fetched]; exact hm d _

/-- What the write-out leaves in the task's rows is what the gathered array holds there. -/
theorem landed (hm : InRange m) (fs : Buf (Elt F) (mWords.view.loc (thr d L))) (fr : Buf (Elt F) (mRows.view.loc (thr d L)))
    (f : Buf (Elt F) (lGat d)) (w : S128x128.Idx → Elt F .f32)
    (hw : w = mRows.view.read (Elt F) (View.write (Elt F) mRows.view fr
      (gatherPayload gathers_S4096x128_S128x128 (kTab.view.read (Elt F) (m (lTab d)))
        (rows (mWords.view.read (Elt F) (View.write (Elt F) mWords.view fs (words m d L) Finset.univ)) rfl (words_lt m d L hm fs))) Finset.univ)) :
    ∀ i ∈ (kGat L).view.set, ((kGat L).view.writes (Elt F) f [⟨Rect.whole S128x128, w⟩] : Buf (Elt F) (lGat d)) i = gat m d i := by
  intro i hi
  obtain ⟨x, -, rfl⟩ := Finset.mem_map.mp hi
  have hread : ((kGat L).view.writes (Elt F) f [⟨Rect.whole S128x128, w⟩] : Buf (Elt F) (lGat d)) ((kGat L).view.emb x) = w x :=
    congrFun (View.read_writes_full (Val := Elt F) (kGat L).view f (off := fun _ => 0) (fun a => by simp) w []) x
  rw [hread, hw, View.write_whole_univ]
  show m (lTab d) (kTab.view.emb (gathers_S4096x128_S128x128.idx _ x)) = _
  rw [kTab_emb]
  show m (lTab d) _ = m (lTab d) _
  congr 1
  funext a
  refine Fin.ext ?_
  match a with
  | 0 =>
    have hx : (S128.rowMajor.symm ((x 0).cast rfl)) = ix1 (n0 := 128) (x 0) :=
      (S128.rowMajor.symm_apply_eq).2 (Fin.ext (by rw [Shape.rowMajor_val_one]; rfl))
    show (mWords.view.read (Elt F) (View.write (Elt F) mWords.view fs (words m d L) Finset.univ) (S128.rowMajor.symm ((x 0).cast rfl))).toNat
      = (rowOfWord (m (lIdx d) (ix1 (n0 := 4096) ((kGat L).view.emb x 0)))).val
    rw [fetched, hx, words_apply]
    have he : (kIdx L).view.emb (ix1 (n0 := 128) (x 0)) = ix1 (n0 := 4096) ((kGat L).view.emb x 0) := by
      funext b
      refine Fin.ext ?_
      match b with
      | 0 => exact (kIdx_emb L _).trans (kGat_emb0 L x).symm
    rw [he]
    exact (Nat.mod_eq_of_lt (hm d _)).symm
  | 1 =>
    show (x 1).val = ((kGat L).view.emb x 1).val
    exact (kGat_emb1 L x).symm

end Task

end Cert.KernelIdeal.Run

end
-- ==== Proof.KernelIdealTask.lean ====
/-
  A task of the SparseCore call of `KernelIdeal`: its body from what it is handed to what it brings back.
-/
module

public import proofs.«01_k».proof.Proof.KernelIdealTile

@[expose] public section

set_option maxRecDepth 16384

noncomputable section

namespace Cert.KernelIdeal.Run

open Cert.KernelIdeal Cert.KernelIdeal.Gen

open Idealize.ShloMosaic Idealize.ShloMosaic.Tactic
open Idealize.ShloMosaic.SparseCore (V gatherPayload rows)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ)

section Task

variable (d : Dev nD) (L : grid0.Coords)

/-- The subcore's three semaphore cells. -/
abbrev cellA : GSem nD τ sig := (thr d L, .dma cc0_scoped0.sem)
abbrev cellB : GSem nD τ sig := (thr d L, .dma cc0_scratch2.sem)
abbrev cellC : GSem nD τ sig := (thr d L, .dma cc0_scoped1.sem)

/-- The subcore's semaphores are its three cells and others. -/
theorem ownSems0_thr :
    (ownSems0 (thr d L) : sProp 𝕄)
      = iprop(semVal (cellA d L) 0 ∗ semVal (cellB d L) 0 ∗ semVal (cellC d L) 0
          ∗ bigSep ((((ownCells (thr d L)).erase (cellA d L)).erase (cellB d L)).erase (cellC d L)) fun g => semVal g 0) := by
  unfold SparseCore.Cfg.ownSems0
  rw [SparseCore.bigSep_erase' ((mem_ownCells (g := cellA d L)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d L)).mpr ⟨rfl, by
      show (SemLoc.dma cc0_scratch2.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d L)).mpr ⟨rfl, by show (SemLoc.dma cc0_scoped1.sem : SemLoc sig).isScoped .scVector = true; decide⟩⟩⟩)]

/-- The subcore's buffers are its two scratch buffers and others. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (thr d L).2).erase ((thr d L).2.devRef cc0_scratch0)).erase ((thr d L).2.devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := (thr d L).2) (b := (thr d L).2.devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := (thr d L).2) (b := (thr d L).2.devRef cc0_scratch1) rfl⟩)]

set_option maxHeartbeats 4000000 in
/-- The task at coordinates `L`: from its words, its share of the table and its rows of the gathered array, it ends with
    those rows holding the table's rows the words name. -/
theorem task_body (hF : (K (F := F)).Facts) (hm : InRange m) (O : CellTallies nD τ sig (HIx 1)) (W : Waits sig (HIx 1)) (hO : ∀ g, O g none = 0) :
    iprop(levAts (K (F := F)).L (K (F := F)).lev ∗ taskHas m d (tsk L) (m (lGat d))
        ∗ scopedBufs (thr d L) ∗ scopedSems0 (thr d L) ∗ owes (thr d L) O W)
      ⊢ wp frame (wpE (defs₀ (F := F)) 𝒱₀ (thr d L) none) Set.univ
          (cc0_gather_kernel L mTab (Memref.isWhole_whole _) mIdx (Memref.isWhole_whole _) mGat (Memref.isWhole_whole _)
            mWords (Memref.isWhole_whole _) mRows (Memref.isWhole_whole _) cc0_scratch2 cc0_scoped0 cc0_scoped1)
          fun _ => iprop(taskHas m d (tsk L) (gat m d)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel taskHas ptIdx ptTab ptGat
  rw [(K (F := F)).scopedBufs_V hF d ((L 0).castLE hcore0) ((L 1).castLE hsub0),
    SparseCore.Cfg.scopedSems0_V (Val := Elt F) d ((L 0).castLE hcore0) ((L 1).castLE hsub0), ownSems0_thr, ownBufs_thr, ← kIdx_set, ← kGat_set]
  iintro ⟨#Hlv, ⟨Hi, Ht, Hg⟩, ⟨⟨%fs, Hw⟩, ⟨%fr, Hr⟩, Hbufs⟩, ⟨HA, HB, HC, Hsems⟩, HO⟩
  ihave Hmw := (show levAts (K (F := F)).L (K (F := F)).lev ⊢ Transfers.MayWaits (thr d L) (default : HIx 1) O from
    (K (F := F)).mayWaits_none (thr := thr d L) hO) $$ Hlv
  ihave Hi := (show (lIdx d ↦[(kIdx L).view.set]{fullShare} m (lIdx d) : sProp 𝕄)
    ⊢ (kIdx L).view.loc (thr d L) ↦[(kIdx L).view.set]{fullShare} m (lIdx d) from .rfl) $$ Hi
  ihave Hg := (show (lGat d ↦[(kGat L).view.set]{fullShare} m (lGat d) : sProp 𝕄)
    ⊢ (kGat L).view.loc (thr d L) ↦[(kGat L).view.set]{fullShare} m (lGat d) from .rfl) $$ Hg
  ihave Ht := (show (lTab d ↦{tabShare (tsk L)} m (lTab d) : sProp 𝕄)
    ⊢ kTab.view.loc (thr d L) ↦{tabShare (tsk L)} m (lTab d) from .rfl) $$ Ht
  ihave Hw := (show ((thr d L).loc cc0_scratch0 ↦{fullShare} fs : sProp 𝕄) ⊢ mWords.view.loc (thr d L) ↦{fullShare} fs from .rfl) $$ Hw
  ihave Hr := (show ((thr d L).loc cc0_scratch1 ↦{fullShare} fr : sProp 𝕄) ⊢ mRows.view.loc (thr d L) ↦{fullShare} fr from .rfl) $$ Hr
  sl_exec
  -- the gather's stream over the fetched words
  have hN : ∀ h : S4096x128.Gathers 0 S128x128, ∑ j, (mRows.slice (S128x128.rowRect h.axis' j) (S128x128.stride_rowRect h.axis' j)).view.dmaCredit
      = mRows.view.dmaCredit := by decide
  iapply (SparseCore.wp_gatherFromWhole countersEmb 𝒱₀ (thr d L) none (src := kTab) (offs := mWords) (hg := gathers_S4096x128_S128x128) (default : HIx 1)
      mRows.view.dmaCredit (hN _) (by decide) (words_lt m d L hm fs)) $$ [Ht Hr Hw HB]
  · isplitl [Ht]; · iexact Ht
    isplitl [Hr]; · iexact Hr
    isplitl [Hw]; · iexact Hw
    iexact HB
  iintro Hfl
  sl_exec
  iapply (Transfers.wp_waitLocalO countersEmb 𝒱₀ (thr d L) none (default : HIx 1) (rfl : mRows.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr, Ht, Hw⟩, HB, HO⟩
  sl_exec
  sl_step
  isplitl [Hi Ht Hg]
  · isplitl [Hi]; · iexact Hi
    isplitl [Ht]; · iexact Ht
    iapply (Entails.of_eq (pointsTo_congr (q := fullShare) (landed m d L hm fs fr (m (lGat d)) _ rfl)))
    iexact Hg
  isplitl [Hw Hr Hbufs]
  · isplitl [Hw]; · iexists _; iexact Hw
    isplitl [Hr]; · iexists _; iexact Hr
    iexact Hbufs
  isplitl [HA HB HC Hsems]
  · isplitl [HA]; · iexact HA
    isplitl [HB]; · iexact HB
    isplitl [HC]; · iexact HC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Task

/-! ## The obligation of the launch -/

/-- Task `(c, s)`'s coordinates. -/
def at2 (c : Fin (grid0.bound 0)) (s : Fin (grid0.bound 1)) : grid0.Coords :=
  fun | 0 => c | 1 => s | ⟨_ + 2, h⟩ => absurd h (Nat.not_lt.2 (Nat.le_add_left _ _))

/-- The body table's entry for a vector subcore is the kernel at the subcore's coordinates. -/
theorem defs₀_task (c : Fin τ.nSC) (s : Fin τ.nSub) :
    defs₀ (F := F) (.scVector c s) 0 ()
      = SparseCore.onTile hcore0 hsub0 (fun c s => cc0_gather_kernel (at2 c s)
          mTab (Memref.isWhole_whole _) mIdx (Memref.isWhole_whole _) mGat (Memref.isWhole_whole _)
          mWords (Memref.isWhole_whole _) mRows (Memref.isWhole_whole _) cc0_scratch2 cc0_scoped0 cc0_scoped1) ⟨⟩ c s := rfl

/-- A conjunct that says nothing may be added to what a triple starts from. -/
theorem drop_emp {A B Q : sProp 𝕄} (h : iprop(A ∗ B) ⊢ Q) : iprop(A ∗ emp ∗ B) ⊢ Q := by
  refine .trans ?_ h
  iintro ⟨HA, -, HB⟩
  isplitl [HA] <;> iassumption

/-- Waits recorded under no call are among those a task of the call may record. -/
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  refine sep_mono_right (sep_mono_right (sep_mono_right ?_))
  iintro ⟨%W', %hW', HO⟩
  iexists W'; isplitr
  · ipureintro; intro p hp
    rcases hW' p hp with h | h
    · exact .inl h
    · exact .inr (.inl h)
  · iexact HO

/-- Every task meets what the launch asks of it. -/
theorem tileObl (hF : (K (F := F)).Facts) (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_task]; simp only [SparseCore.onTile, hci, and_self, ↓reduceDIte]
  exact (drop_emp (task_body m d (at2 ⟨_, hci.1⟩ ⟨_, hci.2⟩) hF hm O W hO)).trans (wp_mono frame _ _ fun _ => waits_weaken)

end Cert.KernelIdeal.Run

end
-- ==== Proof.KernelIdealRun.lean ====
/-
  The run of `KernelIdeal`: the SparseCore call, the TensorCore region on what it leaves, and the final reshape, put
  together into one theorem about the program's final states: the arguments unchanged, the result's value, every
  semaphore at zero.
-/
module

public import proofs.«01_k».proof.Proof.KernelIdealRegion
public import proofs.«01_k».proof.Proof.KernelIdealTask

@[expose] public section

set_option maxRecDepth 16384

noncomputable section

namespace Cert.KernelIdeal.Run

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element of the ghost state -/

/-- The handshakes' rounds and the pipeline's, every cell at its start with its tokens; no transfer counted. -/
def u₀ : UU := (initOf (K (F := F)).hsCells (K (F := F)).hsToks,
  (initOf (Pipeline.cells (nD := nD) (τ := τ) cfgs cellOf_inj) (Pipeline.launchToks cfgs cellOf_inj), 1))

/-- What the launch deals to device `d`'s TensorCore for its pipeline. -/
abbrev pipeGhost (d : Dev nD) : sProp 𝕄 :=
  iprop(Pipeline.cellsGhost cfgs EP 0 d ∗ Pipeline.toksInit cfgs EP 0 d)

theorem no_extras : (bigSep Finset.univ fun thr : Thread nD τ => bigSep Finset.univ fun q : Fin 1 => (P (F := F) m).x q thr) = (iprop(emp) : sProp 𝕄) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  exact bigSep_emp_const _

/-- There is one pipeline. -/
theorem only_one (G : Fin 1 → Dev nD → sProp 𝕄) :
    (bigSep Finset.univ fun d : Dev nD => bigSep Finset.univ fun p : Fin 1 => G p d) ⊢ bigSep Finset.univ fun d : Dev nD => G 0 d :=
  Entails.of_eq (bigSep_congr fun d _ => bigSep_univ_of_subsingleton (0 : Fin 1))

/-- The launch element gives the handshakes' part and each device's pipeline ghost state. -/
theorem hu₀ : (ownU (u₀ (F := F)) : sProp 𝕄)
    ⊢ |={Set.univ}=> iprop(BI.own (EH (initOf (K (F := F)).hsCells (K (F := F)).hsToks)) ∗ (bigSep Finset.univ fun d : Dev nD => pipeGhost (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  imod (Pipeline.fund_ghost cfgs (EP (F := F)) cellOf_inj) $$ [HP] with ⟨Hc, Ht⟩
  · unfold EP; iexact HP
  imodintro
  isplitl [HH]; · iexact HH
  isplitl [Hc Ht]
  · rw [bigSep_sep']
    isplitl [Hc]
    · iapply (only_one (F := F) fun p d => Pipeline.cellsGhost cfgs EP p d); iexact Hc
    · iapply (only_one (F := F) fun p d => Pipeline.toksInit cfgs EP p d); iexact Ht
  rw [no_extras]; iempintro

/-! ## The TensorCore's arrays -/

/-- The TensorCore's unscoped buffers are the program's seven arrays. -/
theorem unscopedBufs_eq (d : Dev nD) (W : (b : Ref sig .tc) → Buf (Elt F) ((d.tc : Thread nD τ).loc b)) :
    (unscopedBufs d W : sProp 𝕄) = iprop((((d.tc : Thread nD τ).loc main_arg0) ↦{fullShare} W main_arg0) ∗ (((d.tc : Thread nD τ).loc main_arg1) ↦{fullShare} W main_arg1)
      ∗ (((d.tc : Thread nD τ).loc main_arg2) ↦{fullShare} W main_arg2) ∗ (((d.tc : Thread nD τ).loc main_arg3) ↦{fullShare} W main_arg3)
      ∗ (((d.tc : Thread nD τ).loc main_v0) ↦{fullShare} W main_v0) ∗ (((d.tc : Thread nD τ).loc main_v1) ↦{fullShare} W main_v1)
      ∗ ((d.tc : Thread nD τ).loc main_v2) ↦{fullShare} W main_v2) := by
  unfold unscopedBufs
  rw [show (Finset.univ.filter fun b : Ref sig .tc => ¬ b.isScoped) = {main_arg0, main_arg1, main_arg2, main_arg3, main_v0, main_v1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays as the TensorCore region finds them: the launch's, the gathered rows in place. -/
def VV (c : Dev nD) (b : Ref sig .tc) : Buf (Elt F) ((c : Thread nD τ).loc b) :=
  Function.update (β := fun b : Ref sig .tc => Buf (Elt F) ((c : Thread nD τ).loc b)) (fun b => m ((c : Thread nD τ).loc b)) main_v0 (gat m c) b

theorem VV_v0 (c : Dev nD) : VV m c main_v0 = gat m c := Function.update_self ..
theorem VV_ne (c : Dev nD) {b : Ref sig .tc} (h : b ≠ main_v0) : VV m c b = m ((c : Thread nD τ).loc b) := Function.update_of_ne h ..

/-- The one word of the region's output. -/
def outWord (c : Dev nD) : Vec F S1x1 .f32 := outAt (VV m) c 1 (by rw [show cfg1.N = 2 from N_1]; decide)

/-- The program's result: that word, as a scalar. -/
def result (c : Dev nD) : Buf (Elt F) ((c : Thread nD τ).loc main_v2) := fun i => shapeCast S_ (outWord m c) shapeCasts_S1x1_S_ i

theorem st_eq (d : Dev nD) : (bigSep Finset.univ fun c : Fin ((K (F := F)).nCore 0) => (P m).st 0 d c)
    = (iprop((lIdx d ↦{fullShare} m (lIdx d)) ∗ (lTab d ↦{fullShare} m (lTab d)) ∗ lGat d ↦{fullShare} m (lGat d)) : sProp 𝕄) :=
  (arrays_split m d (m (lGat d))).symm
theorem dn_eq (d : Dev nD) : (bigSep Finset.univ fun c : Fin ((K (F := F)).nCore 0) => (P m).dn 0 d c)
    = (iprop((lIdx d ↦{fullShare} m (lIdx d)) ∗ (lTab d ↦{fullShare} m (lTab d)) ∗ lGat d ↦{fullShare} gat m d) : sProp 𝕄) :=
  (arrays_split m d (gat m d)).symm

/-! ## The final reshape -/

/-- The reshape's buffers as it starts: the region's word, the result's array at anything. -/
def hloV (d : Dev nD) : Valuation τ sig (Elt F) := fun b =>
  Function.update (β := fun b : DevRef τ sig => b.ty.Contents (Elt F)) (fun b => m (d, b)) (Proc.devRef .tc main_v1) (outWord m d) b

theorem hloV_v1 (d : Dev nD) : hloV m d (Proc.devRef .tc main_v1) = outWord m d := Function.update_self ..
theorem hloV_v2 (d : Dev nD) : hloV m d (Proc.devRef .tc main_v2) = m (d, Proc.devRef .tc main_v2) := Function.update_of_ne (by decide) ..

abbrev theReshape : HloOp τ sig (Elt F) := StableHlo.reshape main_v1 main_v2 (rfl : (.f32 : EltTy) = .f32) shapeCasts_S1x1_S_

theorem reshape_bufs_split (d : Dev nD) (G : Valuation τ sig (Elt F)) :
    (bigSep (theReshape (F := F)).bufs (fun b => ((d, b) ↦{fullShare} G b)) : sProp 𝕄)
      = iprop(((d, Proc.devRef .tc main_v1) ↦{fullShare} G (Proc.devRef .tc main_v1)) ∗ ((d, Proc.devRef .tc main_v2) ↦{fullShare} G (Proc.devRef .tc main_v2))) := by
  rw [StableHlo.reshape_bufs, SparseCore.bigSep_insert' (by decide), bigSep_singleton]

/-! ## @main on the TensorCore -/

/-- After the one call the TensorCore owes nothing. -/
theorem owes_eq (d : Dev nD) :
    (iprop(∃ W, ⌜(K (F := F)).WBelow (SparseCore.T d) W (8 * SparseCore.Cfg.Blocks.fst 1 1 1)⌝ ∗ owes (SparseCore.T d) ((K (F := F)).Otc d 1) W) : sProp 𝕄)
      = owesB (F := F) d := by
  rw [(K (F := F)).Otc_end d (le_refl 1)]; rfl

/-- What @main ends with: the arguments as they were, and the result. -/
def FIN (d : Dev nD) : sProp 𝕄 :=
  iprop((((d : Thread nD τ).loc main_arg0) ↦{fullShare} m ((d : Thread nD τ).loc main_arg0)) ∗ (((d : Thread nD τ).loc main_arg1) ↦{fullShare} m ((d : Thread nD τ).loc main_arg1))
    ∗ (((d : Thread nD τ).loc main_arg2) ↦{fullShare} m ((d : Thread nD τ).loc main_arg2)) ∗ (((d : Thread nD τ).loc main_arg3) ↦{fullShare} m ((d : Thread nD τ).loc main_arg3))
    ∗ (((d : Thread nD τ).loc main_v2) ↦{fullShare} result m d))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ pipeGhost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, Hv0, Hv1, Hv2⟩, Hts, -⟩, Hgh⟩
  iapply ((K (F := F)).wp_run (D (F := F)) 𝒱 (EH := EH) (P := P m) κ d 0) $$ [Hst Hb H0 H1 H2 H3 Hv0 Hv1 Hv2 Hts Hgh]
  isplitr; · iexact Hctx
  isplitl [Hst]; · iexact Hst
  isplitl [H1 H3 Hv0]
  · rw [st_eq]
    isplitl [H1]; · iexact H1
    isplitl [H3]; · iexact H3
    iexact Hv0
  iintro ⟨Hst, Hdn⟩
  ihave Hdn' := (Entails.of_eq (dn_eq m d)) $$ Hdn
  icases Hdn' with ⟨H1, H3, Hv0⟩
  unfold SparseCore.Cfg.tcSt
  icases Hst with ⟨HO, Hst⟩
  iapply (wp_region (VV m) d)
  isplitr [Hb HO H0 H3 Hv0 Hv1 Hgh]
  · unfold arrOut
    rw [VV_ne m d (b := main_arg3) (by decide), VV_ne m d (b := main_arg0) (by decide)]
    iintro ⟨Hb, HO, H3, H0, -, Hv1⟩
    iapply (wp_hlo 𝒱 (SparseCore.T d) none Set.univ (hp := rfl) (op := theReshape (F := F)) (q := fun _ => fullShare) (F := hloV m d) (fun _ _ => rfl)) $$ [Hb Hv1 Hv2]
    · isplitl [Hb]; · iexact Hb
      rw [reshape_bufs_split, hloV_v1, hloV_v2]
      isplitl [Hv1]; · iexact Hv1
      iexact Hv2
    rw [reshape_bufs_split]
    iintro ⟨Hb, -, Hv2⟩
    rw [wp_ret]
    imodintro
    imodintro
    isplitl [HO Hst]
    · isplitl [HO]
      · iapply (Entails.of_eq (owes_eq (F := F) d).symm); iexact HO
      iexact Hst
    isplitr [Hb Hts]
    · unfold FIN
      isplitl [H0]; · iexact H0
      isplitl [H1]; · iexact H1
      isplitl [H2]; · iexact H2
      isplitl [H3]; · iexact H3
      rw [StableHlo.reshape_result, hloV_v1]
      iexact Hv2
    isplitl [Hb] <;> iassumption
  isplitl [Hb]; · iexact Hb
  isplitl [HO H0 H3 Hv0 Hv1]
  · isplitl [HO]
    · iapply (Entails.of_eq (owes_eq (F := F) d)); iexact HO
    unfold arrIn
    rw [VV_ne m d (b := main_arg3) (by decide), VV_ne m d (b := main_arg0) (by decide), VV_ne m d (b := main_v1) (by decide), VV_v0]
    isplitl [H3]; · iexact H3
    isplitl [H0]; · iexact H0
    isplitl [Hv0]; · iexact Hv0
    iexact Hv1
  isplitr; · iapply ((K (F := F)).ctx_levAts κ); iexact Hctx
  iexact Hgh

/-! ## The final states -/

/-- What every final state has on device `d`. -/
def fq (d : Dev nD) (s' : Phys nD τ sig (Elt F)) : Prop :=
  (s'.mem.mem ((d : Thread nD τ).loc main_arg0) = m ((d : Thread nD τ).loc main_arg0)
    ∧ s'.mem.mem ((d : Thread nD τ).loc main_arg1) = m ((d : Thread nD τ).loc main_arg1)
    ∧ s'.mem.mem ((d : Thread nD τ).loc main_arg2) = m ((d : Thread nD τ).loc main_arg2)
    ∧ s'.mem.mem ((d : Thread nD τ).loc main_arg3) = m ((d : Thread nD τ).loc main_arg3))
  ∧ s'.mem.mem ((d : Thread nD τ).loc main_v2) = result m d

/-- A whole array owned at contents `f` holds `f`, and stays owned. -/
theorem agree (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, Hr⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ihave H := (agree s' _ _) $$ [HSI Hr]
  · isplitl [HSI] <;> iassumption
  icases H with ⟨%hr, -⟩
  ipureintro; exact ⟨⟨h0, h1, h2, h3⟩, hr⟩

/-- The program runs from every memory whose index list is in range, without fault; every final state has the arguments
    as they were, `result m` as its result, and every semaphore at zero. -/
theorem run_main [∀ e, Nonempty (Elt F e)] (hm : InRange m) :
    θ_run (defs (F := F)) (threads (F := F)) ⟨m, fun _ => 0, ρ⟩ (fun r => (∀ c : Dev nD,
      (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.mem ((c : Thread nD τ).loc main_v2) = result m c) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (pipeGhost (F := F)) (FIN m) (u₀ (F := F)) (sep_elim_left.trans (hu₀ m)) (hmain m ρ) (fq m) (hfin m) _ (fun _ h hz => ⟨h, hz⟩)

end Cert.KernelIdeal.Run

end
-- ==== Proof.Loss.lean ====
/-
  The loss over the extended reals, as mathematics: the rows of unit length, the similarities of two tables of rows, and the
  two ways of computing them (dividing by the root of the sum of squares and taking the exponential; multiplying by the
  reciprocal root times 1/ln 2 and taking the power of two), with the blocks into which the kernel cuts the sum.
-/
module

public import Idealize.ShloMosaic.PureOps.Ideal

@[expose] public section

noncomputable section

namespace Cert.Loss

open Idealize.ShloMosaic

/-! ## Arithmetic of the extended reals -/

/-- A square is not negative. -/
theorem sq_nonneg (x : EReal) : 0 ≤ x * x := by
  rcases le_total 0 x with h | h
  · exact mul_nonneg h h
  · have h' : 0 ≤ -x := EReal.neg_nonneg.2 h
    have := mul_nonneg h' h'
    rwa [neg_mul_neg] at this

/-- A finite factor that is not negative goes through a finite sum. -/
theorem sum_mul {ι : Type*} (s : Finset ι) (f : ι → EReal) (L : ℝ) (hL : 0 ≤ L) :
    ∑ k ∈ s, f k * (L : EReal) = (∑ k ∈ s, f k) * (L : EReal) := by
  classical
  induction s using Finset.induction_on with
  | empty => simp
  | insert a s ha ih =>
    rw [Finset.sum_insert ha, Finset.sum_insert ha, ih,
      EReal.right_distrib_of_nonneg_of_ne_top (EReal.coe_nonneg.2 hL) (EReal.coe_ne_top L)]

/-- Multiplying by the reciprocal root of a positive number is dividing by its root. -/
theorem mul_rsqrt (x S : EReal) (hS : 0 < S) : x * Ideal.rsqrt S = Ideal.div x (Ideal.sqrt S) := by
  induction S with
  | bot => exact absurd hS (by simp)
  | top => simp [Ideal.div]
  | coe r =>
    have hr : 0 < r := EReal.coe_pos.1 hS
    have hs : Real.sqrt r ≠ 0 := (Real.sqrt_pos.2 hr).ne'
    rw [Ideal.rsqrt_coe, if_neg hr.not_gt, if_neg hr.ne', Ideal.sqrt_coe, if_neg hr.not_gt, Ideal.div_coe hs, one_div]

/-- The power of two of a number times 1/ln 2 is its exponential. -/
theorem exp2_mul (s : EReal) : Ideal.exp2 (s * (((Real.log 2)⁻¹ : ℝ) : EReal)) = Ideal.exp s := by
  have hL : 0 < (Real.log 2)⁻¹ := inv_pos.2 (Real.log_pos (by norm_num))
  induction s with
  | bot => rw [EReal.bot_mul_coe_of_pos hL]; simp
  | top => rw [EReal.top_mul_coe_of_pos hL]; simp
  | coe r =>
    rw [← EReal.coe_mul, Ideal.exp2_coe, Ideal.exp_coe]
    have h2 : Real.log 2 ≠ 0 := (Real.log_pos (by norm_num)).ne'
    congr 1
    change (2 : ℝ) ^ (r * (Real.log 2)⁻¹) = Real.exp r
    rw [Real.rpow_def_of_pos (by norm_num)]
    congr 1
    field_simp

/-- Dividing by 1 changes nothing. -/
theorem div_one (x : EReal) : Ideal.div x 1 = x := by
  rw [← EReal.coe_one, Ideal.div_coe one_ne_zero, _root_.div_one, EReal.coe_one, mul_one]

/-! ## Rows and similarities -/

/-- The sum of a row's squares. -/
def sumSq {d : ℕ} (v : Fin d → EReal) : EReal := ∑ k, v k * v k

/-- The row divided by its length. -/
def unit {d : ℕ} (v : Fin d → EReal) (k : Fin d) : EReal := Ideal.div (v k) (Ideal.sqrt (sumSq v))

/-- The product of two rows. -/
def dot {d : ℕ} (u v : Fin d → EReal) : EReal := ∑ k, u k * v k

/-- The row as the kernel scales it: times its reciprocal length. -/
def scaled {d : ℕ} (v : Fin d → EReal) (k : Fin d) : EReal := v k * Ideal.rsqrt (sumSq v)

/-- The row as the kernel scales it for a power of two: times its reciprocal length times 1/ln 2. -/
def scaledLog {d : ℕ} (v : Fin d → EReal) (k : Fin d) : EReal := v k * (Ideal.rsqrt (sumSq v) * (((Real.log 2)⁻¹ : ℝ) : EReal))

theorem scaled_eq {d : ℕ} (v : Fin d → EReal) (h : 0 < sumSq v) : scaled v = unit v :=
  funext fun k => mul_rsqrt (v k) _ h

/-- The kernel's power of two of a scaled product is the exponential of the product of the unit rows. -/
theorem exp2_dot {d : ℕ} (u v : Fin d → EReal) (hu : 0 < sumSq u) (hv : 0 < sumSq v) :
    Ideal.exp2 (dot (scaled u) (scaledLog v)) = Ideal.exp (dot (unit u) (unit v)) := by
  have hL : 0 ≤ (Real.log 2)⁻¹ := (inv_pos.2 (Real.log_pos (by norm_num))).le
  rw [← exp2_mul, dot, dot, ← sum_mul _ _ _ hL, scaled_eq u hu]
  congr 1
  refine Finset.sum_congr rfl fun k _ => ?_
  rw [scaledLog, ← mul_assoc, ← mul_assoc, mul_assoc (unit u k), mul_rsqrt (v k) _ hv]
  rfl

/-- The squared difference of the exponentials of two rows' similarities with a third. -/
def gap {d : ℕ} (c x v : Fin d → EReal) : EReal :=
  (Ideal.exp (dot (unit c) (unit v)) - Ideal.exp (dot (unit x) (unit v))) * (Ideal.exp (dot (unit c) (unit v)) - Ideal.exp (dot (unit x) (unit v)))

/-- The same as the kernel computes it. -/
def gap2 {d : ℕ} (c x v : Fin d → EReal) : EReal :=
  (Ideal.exp2 (dot (scaled c) (scaledLog v)) - Ideal.exp2 (dot (scaled x) (scaledLog v)))
    * (Ideal.exp2 (dot (scaled c) (scaledLog v)) - Ideal.exp2 (dot (scaled x) (scaledLog v)))

theorem gap2_eq {d : ℕ} (c x v : Fin d → EReal) (hc : 0 < sumSq c) (hx : 0 < sumSq x) (hv : 0 < sumSq v) :
    gap2 c x v = gap c x v := by
  rw [gap2, gap, exp2_dot c v hc hv, exp2_dot x v hx hv]

theorem gap_nonneg {d : ℕ} (c x v : Fin d → EReal) : 0 ≤ gap c x v := sq_nonneg _

/-- The squared distance of two rows. -/
def dist {d : ℕ} (x c : Fin d → EReal) : EReal := ∑ k, (x k - c k) * (x k - c k)

theorem dist_nonneg {d : ℕ} (x c : Fin d → EReal) : 0 ≤ dist x c := Finset.sum_nonneg fun _ _ => sq_nonneg _

/-! ## The kernel's blocks -/

/-- Class `i` of tile `t` of block `p`. -/
def cls (p : Fin 2) (t : Fin 8) (i : Fin 256) : Fin 4096 := ⟨p.val * 2048 + t.val * 256 + i.val, by omega⟩

/-- Blocks, tiles and places number the classes. -/
def clsEquiv : Fin 2 × Fin 8 × Fin 256 ≃ Fin 4096 where
  toFun q := cls q.1 q.2.1 q.2.2
  invFun j := (⟨j.val / 2048, by omega⟩, ⟨j.val % 2048 / 256, by omega⟩, ⟨j.val % 256, by omega⟩)
  left_inv := by
    rintro ⟨p, t, i⟩
    refine Prod.ext (Fin.ext ?_) (Prod.ext (Fin.ext ?_) (Fin.ext ?_)) <;> dsimp only [cls] <;> omega
  right_inv j := Fin.ext (by dsimp only [cls]; omega)

/-- The sum over blocks, tiles, rows and places is the sum over rows and classes. -/
theorem sum_blocks (g : Fin 4096 → Fin 4096 → EReal) :
    ∑ p, ∑ t, ∑ r, ∑ i, g r (cls p t i) = ∑ r, ∑ j, g r j := by
  have h : ∀ r, ∑ j, g r j = ∑ p, ∑ t, ∑ i, g r (cls p t i) := fun r => by
    rw [← Equiv.sum_comp clsEquiv (g r), Fintype.sum_prod_type]
    refine Finset.sum_congr rfl fun p _ => ?_
    rw [Fintype.sum_prod_type]
    rfl
  simp only [h]
  refine Eq.trans ?_ Finset.sum_comm
  refine Finset.sum_congr rfl fun p _ => ?_
  exact Finset.sum_comm

/-! ## The loss -/

/-- What the problem computes of the samples `x`, the rows `c` of their classes and the table `m`: twice the mean squared
    gap of the similarities, and `w` times the mean squared distance. -/
def loss (w : EReal) (x c m : Fin 4096 → Fin 128 → EReal) : EReal :=
  Ideal.div (∑ r, ∑ j, gap (c r) (x r) (m j)) ((4096 : ℝ) : EReal) * ((2 : ℝ) : EReal)
    + Ideal.div (∑ r, dist (x r) (c r)) ((4096 : ℝ) : EReal) * w

/-- One tile of one block, as the kernel sums it. -/
def tile (x c m : Fin 4096 → Fin 128 → EReal) (p : Fin 2) (t : Fin 8) : EReal := ∑ r, ∑ i, gap2 (c r) (x r) (m (cls p t i))

/-- What the kernel computes: the distances times `e`, and each block's sum times `f`, one after the other. -/
def blocked (e f : EReal) (x c m : Fin 4096 → Fin 128 → EReal) : EReal :=
  (∑ r, dist (x r) (c r)) * e + (∑ t, tile x c m 0 t) * f + (∑ t, tile x c m 1 t) * f

/-- The kernel's sum is the problem's, where every row has a positive sum of squares. -/
theorem blocked_eq (w : ℝ) (x c m : Fin 4096 → Fin 128 → EReal) (hx : ∀ r, 0 < sumSq (x r)) (hc : ∀ r, 0 < sumSq (c r)) (hm : ∀ j, 0 < sumSq (m j)) :
    blocked (((w / 4096 : ℝ)) : EReal) (((2 / 4096 : ℝ)) : EReal) x c m = loss w x c m := by
  have ht : ∀ p t, tile x c m p t = ∑ r, ∑ i, gap (c r) (x r) (m (cls p t i)) := fun p t =>
    Finset.sum_congr rfl fun r _ => Finset.sum_congr rfl fun i _ => gap2_eq _ _ _ (hc r) (hx r) (hm _)
  have hf : (0 : ℝ) ≤ 2 / 4096 := by norm_num
  have hall : (∑ t, tile x c m 0 t) + (∑ t, tile x c m 1 t) = ∑ r, ∑ j, gap (c r) (x r) (m j) := by
    rw [← sum_blocks fun r j => gap (c r) (x r) (m j), Fin.sum_univ_two]
    simp only [ht]
  rw [blocked, loss, ← hall, add_assoc, add_comm,
    ← EReal.right_distrib_of_nonneg_of_ne_top (EReal.coe_nonneg.2 hf) (EReal.coe_ne_top _),
    Ideal.div_coe (by norm_num), Ideal.div_coe (by norm_num), mul_assoc, mul_assoc, ← EReal.coe_mul, ← EReal.coe_mul]
  congr 4 <;> ring

end Cert.Loss

end
-- ==== Proof.Consts.lean ====
/-
  The float literals of the two programs, as the numbers they are.
-/
module

public import Idealize.ShloMosaic.PureOps.Ideal
public import Idealize.ShloMosaic.PureOps.IdealRules

@[expose] public section

noncomputable section

namespace Cert.Consts

open Idealize.ShloMosaic

/-- The weight of the distances: 0.001 as the nearest float. -/
def weight : ℝ := 8589935 / 8589934592

theorem ofBits_weight : Ideal.ofBits .f32 0x3A83126F#32 = ((weight : ℝ) : EReal) := by
  simp [Ideal.ofBits, Ideal.ieee, weight, -EReal.coe_mul]; norm_num

/-- The kernel's literal: the weight over 4096. -/
theorem ofBits_weight_mean : Ideal.ofBits .f32 0x3483126F#32 = ((weight / 4096 : ℝ) : EReal) := by
  simp [Ideal.ofBits, Ideal.ieee, weight, -EReal.coe_mul]; norm_num

/-- The kernel's other literal: 2 over 4096. -/
theorem ofBits_two_mean : Ideal.ofBits .f32 0x3A000000#32 = ((2 / 4096 : ℝ) : EReal) := by
  simp [Ideal.ofBits, Ideal.ieee, -EReal.coe_mul]; norm_num

theorem ofBits_count : Ideal.ofBits .f32 0x45800000#32 = ((4096 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.Consts

end
-- ==== Proof.KernelIdealTileValue.lean ====
/-
  What the loss kernel's stored values are over the extended reals: one class tile's sum, the scaled rows, the distances.
-/
module

public import proofs.«01_k».proof.Proof.KernelIdealBody
public import proofs.«01_k».proof.Proof.Loss
public import proofs.«01_k».proof.Proof.Consts
public import Idealize.ShloMosaic.Lib.Pointwise
public import Idealize.ShloMosaic.Lib.IdealHost

@[expose] public section

set_option maxRecDepth 16384

noncomputable section

namespace Cert.KernelIdeal.Value

open Cert.KernelIdeal Cert.KernelIdeal.Gen Cert.Loss
open Idealize.ShloMosaic

/-- A table of rows of 128, by its rows. -/
abbrev rows {n : ℕ} (x : (⟨2, ![n, 128]⟩ : Shape).Idx → EReal) (i : Fin n) (k : Fin 128) : EReal := x (ix2 i k)

/-- The squared differences of two powers of two, summed over a class tile. -/
def tileSum (cn xn : S4096x128.Idx → EReal) (mt : S256x128.Idx → EReal) : EReal :=
  ∑ r : Fin 4096, ∑ i : Fin 256, (Ideal.exp2 (dot (rows cn r) (rows mt i)) - Ideal.exp2 (dot (rows xn r) (rows mt i)))
    * (Ideal.exp2 (dot (rows cn r) (rows mt i)) - Ideal.exp2 (dot (rows xn r) (rows mt i)))

/-- What the kernel computes of a class tile. -/
abbrev tileTerm (cn xn : FVec Ideal S4096x128 .bf16) (mt : FVec Ideal S256x128 .bf16) : Ideal .f32 :=
  extractAt ![0, 0, 0] (shapeCast S1x1x1 (multiReduction (F := Ideal) .add [1, 2] S1 (shapeCast S1x4096x256
    (mulf (subf (exp2 (matmul (F := Ideal) dot_S4096x128_S256x128_S4096x256_1_1_0_0_n_n none cn mt (constant S4096x256 .f32 0x00000000#32)))
      (exp2 (matmul (F := Ideal) dot_S4096x128_S256x128_S4096x256_1_1_0_0_n_n none xn mt (constant S4096x256 .f32 0x00000000#32))))
      (subf (exp2 (matmul (F := Ideal) dot_S4096x128_S256x128_S4096x256_1_1_0_0_n_n none cn mt (constant S4096x256 .f32 0x00000000#32)))
      (exp2 (matmul (F := Ideal) dot_S4096x128_S256x128_S4096x256_1_1_0_0_n_n none xn mt (constant S4096x256 .f32 0x00000000#32)))))
    shapeCasts_S4096x256_S1x4096x256) 0x00000000#32 reduces_S1x4096x256_S1 (.inl rfl) rfl) shapeCasts_S1_S1x1x1) inpos_S1x1x1_p0_0_0

theorem tileTerm_eq (cn xn : FVec Ideal S4096x128 .bf16) (mt : FVec Ideal S256x128 .bf16) : tileTerm cn xn mt = tileSum cn xn mt := by
  unfold tileTerm tileSum dot extractAt
  pointwise
  rfl

theorem pay3_apply (x : Vec Ideal S4096x128 .f32) (r : Fin 4096) (k : Fin 128) : k1_pay3 x (ix2 r k) = scaled (rows x r) k := by
  unfold scaled sumSq
  pointwise [k1_pay3]

theorem pay4_apply (x : Vec Ideal S4096x128 .f32) (r : Fin 4096) (k : Fin 128) : k1_pay4 x (ix2 r k) = scaled (rows x r) k := by
  unfold scaled sumSq
  pointwise [k1_pay4, k1_pay2]

theorem pay6_apply (x : Vec Ideal S2048x128 .f32) (r : Fin 2048) (k : Fin 128) : k1_pay6 x (ix2 r k) = scaledLog (rows x r) k := by
  unfold scaledLog sumSq
  pointwise [k1_pay6]
  rw [IdealRules.named_const.ideal_named_scalar _ _ _ _ rfl]

theorem pay5_apply (x c : Vec Ideal S4096x128 .f32) (j : S1x1.Idx) :
    k1_pay5 x c j = (∑ r, Loss.dist (rows x r) (rows c r)) * ((Consts.weight / 4096 : ℝ) : EReal) := by
  rw [← Consts.ofBits_weight_mean]
  unfold Loss.dist
  pointwise [k1_pay5, k1_pay2, extractAt]

/-- The kernel's tile at row `o` of a block of scaled rows sums the class rows from `o` on. -/
theorem tileTerm_slice (cn xn : FVec Ideal S4096x128 .bf16) (x : Vec Ideal S2048x128 .f32) (o : ℕ) (h : S2048x128.Slices ![o, 0] S256x128) (ho : o + 256 ≤ 2048) :
    tileTerm cn xn (extractStridedSlice S256x128 ![o, 0] (k1_pay6 x) h)
      = tileSum cn xn fun j => scaledLog (rows x ⟨o + (j 0).val, by have : (j 0).val < 256 := (j 0).isLt; omega⟩) (j 1) := by
  rw [tileTerm_eq]
  congr 1
  funext j
  idx_vars j
  rw [← pay6_apply]
  pointwise

/-- One step of the kernel: the block's eight tiles, summed, times 2/4096, onto what was there. -/
theorem stepOut_eq (xm : Vec Ideal S2048x128 .f32) (cn xn : Vec Ideal S4096x128 .bf16) (acc : Vec Ideal S1x1 .f32) (j : S1x1.Idx) :
    Run.stepOut xm cn xn acc j
      = acc j + (∑ t : Fin 8, tileSum cn xn fun i => scaledLog (rows xm ⟨t.val * 256 + (i 0).val, by have : (i 0).val < 256 := (i 0).isLt; omega⟩) (i 1))
          * ((2 / 4096 : ℝ) : EReal) := by
  have h : Run.stepOut xm cn xn acc = addf (shapeCast S1x1 acc shapeCasts_S1x1_S1x1) (broadcast S1x1 (Scalar.mulf
      (Scalar.addf (Scalar.addf (Scalar.addf (Scalar.addf (Scalar.addf (Scalar.addf (Scalar.addf (Scalar.addf (Scalar.ofBits .f32 0x00000000#32)
        (tileTerm cn xn (extractStridedSlice S256x128 ![0, 0] (k1_pay6 xm) slices_S2048x128_o0_0_S256x128)))
        (tileTerm cn xn (extractStridedSlice S256x128 ![256, 0] (k1_pay6 xm) slices_S2048x128_o256_0_S256x128)))
        (tileTerm cn xn (extractStridedSlice S256x128 ![512, 0] (k1_pay6 xm) slices_S2048x128_o512_0_S256x128)))
        (tileTerm cn xn (extractStridedSlice S256x128 ![768, 0] (k1_pay6 xm) slices_S2048x128_o768_0_S256x128)))
        (tileTerm cn xn (extractStridedSlice S256x128 ![1024, 0] (k1_pay6 xm) slices_S2048x128_o1024_0_S256x128)))
        (tileTerm cn xn (extractStridedSlice S256x128 ![1280, 0] (k1_pay6 xm) slices_S2048x128_o1280_0_S256x128)))
        (tileTerm cn xn (extractStridedSlice S256x128 ![1536, 0] (k1_pay6 xm) slices_S2048x128_o1536_0_S256x128)))
        (tileTerm cn xn (extractStridedSlice S256x128 ![1792, 0] (k1_pay6 xm) slices_S2048x128_o1792_0_S256x128)))
      (Scalar.ofBits .f32 0x3A000000#32))) := rfl
  rw [h, tileTerm_slice _ _ _ _ _ (by norm_num), tileTerm_slice _ _ _ _ _ (by norm_num), tileTerm_slice _ _ _ _ _ (by norm_num),
    tileTerm_slice _ _ _ _ _ (by norm_num), tileTerm_slice _ _ _ _ _ (by norm_num), tileTerm_slice _ _ _ _ _ (by norm_num),
    tileTerm_slice _ _ _ _ _ (by norm_num), tileTerm_slice _ _ _ _ _ (by norm_num), ← Consts.ofBits_two_mean]
  simp only [Fin.sum_univ_eight]
  pointwise

/-- The same by the tables whose scaled rows the step is given. -/
theorem stepOut_tiles (xm : Vec Ideal S2048x128 .f32) (cn xn : Vec Ideal S4096x128 .bf16) (acc : Vec Ideal S1x1 .f32) (j : S1x1.Idx)
    (x c m : Fin 4096 → Fin 128 → EReal) (p : Fin 2) (hx : ∀ r k, xn (ix2 r k) = scaled (x r) k) (hc : ∀ r k, cn (ix2 r k) = scaled (c r) k)
    (hm : ∀ (q : Fin 8) (i : Fin 256) (h : q.val * 256 + i.val < 2048), rows xm ⟨q.val * 256 + i.val, h⟩ = m (cls p q i)) :
    Run.stepOut xm cn xn acc j = acc j + (∑ q, tile x c m p q) * ((2 / 4096 : ℝ) : EReal) := by
  have hx' : rows xn = fun r => scaled (x r) := funext fun r => funext fun k => hx r k
  have hc' : rows cn = fun r => scaled (c r) := funext fun r => funext fun k => hc r k
  rw [stepOut_eq]
  congr 2
  refine Finset.sum_congr rfl fun q _ => ?_
  rw [tileSum, tile, hx', hc']
  refine Finset.sum_congr rfl fun r _ => Finset.sum_congr rfl fun i _ => ?_
  rw [gap2, ← hm q i (by omega)]
  rfl

end Cert.KernelIdeal.Value

end
-- ==== Proof.KernelIdealValue.lean ====
/-
  The ideal program's result over the extended reals: the loss of the samples, of the table's rows that the indices name,
  and of the table.
-/
module

public import proofs.«01_k».proof.Proof.KernelIdealRun
public import proofs.«01_k».proof.Proof.KernelIdealTileValue
public import Idealize.ShloMosaic.Lib.Pipeline.Value

@[expose] public section

set_option maxRecDepth 16384

noncomputable section

namespace Cert.KernelIdeal.Value

open Cert.KernelIdeal Cert.KernelIdeal.Gen Cert.Loss
open Idealize.ShloMosaic Idealize.ShloMosaic.TcCoe

section Blocks
variable (V : (c : Dev nD) → (b : Ref sig .tc) → Buf (Elt Ideal) ((c : Thread nD τ).loc b)) (c : Dev nD)

theorem index_table_row (t : Fin cfg1.N) : (cfg1.win 0).index t 0 = t.val := by
  rcases fin_N1 t with rfl | rfl <;> rfl
theorem index_table_lane (t : Fin cfg1.N) : (cfg1.win 0).index t 1 = 0 := by
  rcases fin_N1 t with rfl | rfl <;> rfl

/-- Block `t` of the table is its rows from `2048 t` on. -/
theorem block_table (t : Fin cfg1.N) (r : Fin 2048) (k : Fin 128) (j : Fin 4096) (hj : j.val = t.val * 2048 + r.val) :
    Run.iblk V c 0 t (ix2 r k) = V c main_arg3 (ix2 j k) := by
  show V c main_arg3 (((cfg1.win 0).rect t).emb (ix2 r k)) = _
  refine congrArg (V c main_arg3) (funext fun a => Fin.ext ?_)
  match a with
  | ⟨0, _⟩ => exact ((cfg1.win 0).rect_emb_val t (ix2 r k) 0).trans (by rw [index_table_row]; exact hj.symm)
  | ⟨1, _⟩ => exact ((cfg1.win 0).rect_emb_val t (ix2 r k) 1).trans (by rw [index_table_lane, Nat.zero_mul, Nat.zero_add]; rfl)

/-- The samples' block is the samples, -/
theorem block_samples (r : Fin 4096) (k : Fin 128) : Run.iblk V c 1 t1_0 (ix2 r k) = V c main_arg0 (ix2 r k) := by
  show V c main_arg0 (((cfg1.win 1).rect t1_0).emb (ix2 r k)) = _
  refine congrArg (V c main_arg0) (funext fun a => Fin.ext ?_)
  match a with
  | ⟨0, _⟩ => exact (cfg1.win 1).rect_emb_val_of_index_zero t1_0 0 rfl (ix2 r k)
  | ⟨1, _⟩ => exact (cfg1.win 1).rect_emb_val_of_index_zero t1_0 1 rfl (ix2 r k)

/-- and the centers' block the centers. -/
theorem block_centers (r : Fin 4096) (k : Fin 128) : Run.iblk V c 2 t1_0 (ix2 r k) = V c main_v0 (ix2 r k) := by
  show V c main_v0 (((cfg1.win 2).rect t1_0).emb (ix2 r k)) = _
  refine congrArg (V c main_v0) (funext fun a => Fin.ext ?_)
  match a with
  | ⟨0, _⟩ => exact (cfg1.win 2).rect_emb_val_of_index_zero t1_0 0 rfl (ix2 r k)
  | ⟨1, _⟩ => exact (cfg1.win 2).rect_emb_val_of_index_zero t1_0 1 rfl (ix2 r k)

/-- What block `t` adds. -/
theorem step_value (t : Fin cfg1.N) (p : Fin 2) (hp : t.val = p.val) (acc : Vec Ideal S1x1 .f32) (j : S1x1.Idx) :
    Run.stepOut (Run.iblk V c 0 t) (Run.scr1 V c) (Run.scr0 V c) acc j
      = acc j + (∑ q, tile (rows (V c main_arg0)) (rows (V c main_v0)) (rows (V c main_arg3)) p q) * ((2 / 4096 : ℝ) : EReal) := by
  refine stepOut_tiles _ _ _ _ _ _ _ _ p (fun r k => ?_) (fun r k => ?_) (fun q i h => ?_)
  · rw [Run.scr0, pay3_apply]
    congr 1; funext l; exact block_samples V c r l
  · rw [Run.scr1, pay4_apply]
    congr 1; funext l; exact block_centers V c r l
  · funext k
    exact block_table V c t _ k _ (by dsimp only [cls]; omega)

/-- The output word after the second block. -/
theorem outAt_value (h : 1 < cfg1.N) (j : S1x1.Idx) :
    Run.outAt V c 1 h j = blocked ((Consts.weight / 4096 : ℝ) : EReal) ((2 / 4096 : ℝ) : EReal) (rows (V c main_arg0)) (rows (V c main_v0)) (rows (V c main_arg3)) := by
  have hd : ∀ r, Loss.dist (rows (Run.iblk V c 1 t1_0) r) (rows (Run.iblk V c 2 t1_0) r) = Loss.dist (rows (V c main_arg0) r) (rows (V c main_v0) r) := fun r =>
    Finset.sum_congr rfl fun k _ => by rw [rows, rows, block_samples, block_centers]
  rw [Run.outAt, step_value V c ⟨0 + 1, h⟩ 1 rfl, Run.outAt, step_value V c ⟨0, Nat.lt_of_succ_lt h⟩ 0 rfl, pay5_apply, blocked]
  simp only [hd]

end Blocks

variable (m : (ℓ : Loc nD τ sig) → Buf (Elt Ideal) ℓ) (c : Dev nD)

/-- The program's result. -/
theorem result_value (i : S_.Idx) :
    Run.result m c i = blocked ((Consts.weight / 4096 : ℝ) : EReal) ((2 / 4096 : ℝ) : EReal) (rows (m ((c : Thread nD τ).loc main_arg0)))
      (fun r => rows (m ((c : Thread nD τ).loc main_arg3)) (Run.rowOfWord (m ((c : Thread nD τ).loc main_arg1) (ix1 r))))
      (rows (m ((c : Thread nD τ).loc main_arg3))) := by
  unfold Run.result
  rw [shapeCast, Run.outWord, outAt_value, Run.VV_v0, Run.VV_ne m c (b := main_arg0) (by decide), Run.VV_ne m c (b := main_arg3) (by decide)]
  rfl

end Cert.KernelIdeal.Value

end
-- ==== Proof.ReferenceIdealValue.lean ====
/-
  The reference's result over the extended reals, for indices in range: the loss of the samples, of the table's rows that
  the indices name, and of the table.
-/
module

public import proofs.«01_k».proof.Proof.Gen.ReferenceIdeal.Run
public import proofs.«01_k».proof.Proof.Loss
public import proofs.«01_k».proof.Proof.Consts
public import Idealize.ShloMosaic.Lib.Affine
public import Idealize.ShloMosaic.Lib.ReduceAll
public import Idealize.ShloMosaic.Lib.Pointwise
public import Idealize.ShloMosaic.Lib.Pointwise.IndexBridge
public import Idealize.ShloMosaic.Lib.IdealHost
public import Idealize.ShloMosaic.Lib.Routing.Ops

@[expose] public section

set_option maxRecDepth 16384

noncomputable section

namespace Cert.ReferenceIdeal.Value

open Cert.ReferenceIdeal Cert.ReferenceIdeal.Gen Cert.Loss
open Idealize.ShloMosaic Idealize.ShloMosaic.TcCoe

/-! ## Taking rows by index -/

/-- The indices as a column, those below zero moved up by the table's length. -/
abbrev wrapped (t : IVec S4096 32) : IVec S4096x1 32 :=
  broadcastInDim S4096x1 ![0] bcast_S4096_S4096x1_0 (select (cmpi .slt t (broadcastInDim S4096 ![] bcast_S_S4096 (constantI S_ 32 0#32)))
    (addi t (broadcastInDim S4096 ![] bcast_S_S4096 (constantI S_ 32 4096#32))) t)

/-- Which indices name a row of the table. -/
abbrev inside (t : IVec S4096 32) : IVec S4096 1 :=
  Host.reduce IntOp.andi (andi (cmpi .sge (wrapped t) (broadcastInDim S4096x1 ![] bcast_S_S4096x1 (constantI S_ 32 0#32)))
    (cmpi .sle (wrapped t) (broadcastInDim S4096x1 ![0, 1] bcast_S1x1_S4096x1_0_1 (broadcastInDim S1x1 ![1] bcast_S1_S1x1_1 (constantI S1 32 4095#32)))))
    (constantI S_ 1 1#1) reducesTo_S4096x1_S4096_d1 h_S_

/-- The table's rows at the indices, a row of no number where an index names none. -/
abbrev taken (t : IVec S4096 32) (x : FVec Ideal S4096x128 .f32) : FVec Ideal S4096x128 .f32 :=
  select (broadcastInDim S4096x128 ![0] bcast_S4096_S4096x128_0 (inside t))
    (Host.gather gather_S4096x128_S4096x1_S4096x128_1_0_n_n_0_1_1128 x (wrapped t))
    (broadcastInDim S4096x128 ![] bcast_S_S4096x128 (constant (F := Ideal) S_ .f32 0x7FC00000#32))

/-- The same of a table with 4096 columns. -/
abbrev takenWide (t : IVec S4096 32) (x : FVec Ideal S4096x4096 .f32) : FVec Ideal S4096x4096 .f32 :=
  select (broadcastInDim S4096x4096 ![0] bcast_S4096_S4096x4096_0 (inside t))
    (Host.gather gather_S4096x4096_S4096x1_S4096x4096_1_0_n_n_0_1_14096 x (wrapped t))
    (broadcastInDim S4096x4096 ![] bcast_S_S4096x4096 (constant (F := Ideal) S_ .f32 0x7FC00000#32))

section Take
variable (t : IVec S4096 32) (h : ∀ j, (t j).toNat < 4096)
include h

/-- A word in range is its number, signed or not. -/
theorem toInt_eq (j : S4096.Idx) : (t j).toInt = (t j).toNat := by
  have := h j
  rw [BitVec.toInt_eq_toNat_cond]; split <;> omega

theorem wrapped_apply (i : Fin 4096) (z : Fin 1) : wrapped t (ix2 i z) = t (ix1 i) := by
  have e := toInt_eq t h (ix1 i)
  have hn : ¬ IntOp.cmpi .slt (t (ix1 i)) 0#32 = 1#1 := by
    rw [IntOp.cmpi_slt, e, show (0#32 : BitVec 32).toInt = 0 from rfl]; omega
  pointwise [wrapped]
  rw [ValueIdx.eq_zero_of_ne_one hn]
  rfl

theorem inside_apply (i : Fin 4096) : inside t (ix1 i) = 1#1 := by
  refine Host.reduce_andi_one _ _ _ _ _ rfl fun j => ?_
  obtain ⟨a, b, rfl⟩ : ∃ (a : Fin 4096) (b : Fin 1), j = ix2 a b := ⟨j 0, j 1, eq_ix2 j⟩
  have e := toInt_eq t h (ix1 a)
  have hlt := h (ix1 a)
  have hw := wrapped_apply t h a b
  generalize wrapped t = w at hw ⊢
  pointwise
  rw [hw, IntOp.andi_eq_one, IntOp.cmpi_sge, IntOp.cmpi_sle, e, show (0#32 : BitVec 32).toInt = 0 from rfl, show (4095#32 : BitVec 32).toInt = 4095 from rfl]
  omega

theorem wrapped_row (i : Fin 4096) : wrapped t (ValueIdx.ix2 i (0 : Fin 1)) = BitVec.ofNat 32 (⟨(t (ix1 i)).toNat, h _⟩ : Fin 4096).val := by
  rw [← ix2_eq_valueIdx, wrapped_apply t h, BitVec.ofNat_toNat, BitVec.setWidth_eq]

theorem taken_apply (x : FVec Ideal S4096x128 .f32) (i : Fin 4096) (k : Fin 128) :
    taken t x (ix2 i k) = x (ix2 (⟨(t (ix1 i)).toNat, h _⟩ : Fin 4096) k) := by
  have hg := Routing.gather_row gather_S4096x128_S4096x1_S4096x128_1_0_n_n_0_1_1128 rfl rfl rfl rfl rfl x (wrapped t) i k _ (wrapped_row t h i) (by norm_num)
  rw [← ix2_eq_valueIdx, ← ix2_eq_valueIdx] at hg
  have hi := inside_apply t h i
  unfold taken
  generalize inside t = s at hi ⊢
  generalize Host.gather _ x (wrapped t) = g at hg ⊢
  pointwise
  rw [hi, hg]
  rfl

theorem takenWide_apply (x : FVec Ideal S4096x4096 .f32) (i : Fin 4096) (k : Fin 4096) :
    takenWide t x (ix2 i k) = x (ix2 (⟨(t (ix1 i)).toNat, h _⟩ : Fin 4096) k) := by
  have hg := Routing.gather_row gather_S4096x4096_S4096x1_S4096x4096_1_0_n_n_0_1_14096 rfl rfl rfl rfl rfl x (wrapped t) i k _ (wrapped_row t h i) (by norm_num)
  rw [← ix2_eq_valueIdx, ← ix2_eq_valueIdx] at hg
  have hi := inside_apply t h i
  unfold takenWide
  generalize inside t = s at hi ⊢
  generalize Host.gather _ x (wrapped t) = g at hg ⊢
  pointwise
  rw [hi, hg]
  rfl

end Take

/-! ## Rows, similarities and means -/

/-- A table of rows of 128, by its rows. -/
abbrev rows {n : ℕ} (x : (⟨2, ![n, 128]⟩ : Shape).Idx → EReal) (i : Fin n) (k : Fin 128) : EReal := x (ix2 i k)

/-- The table with each row divided by its length. -/
abbrev units (x : FVec Ideal S4096x128 .f32) : FVec Ideal S4096x128 .f32 :=
  Host.divf x (broadcastInDim S4096x128 ![0, 1] bcast_S4096x1_S4096x128_0_1 (Host.sqrt (broadcastInDim S4096x1 ![0] bcast_S4096_S4096x1_0
    (Host.reduceAdd (mulf x x) (constant S_ .f32 0x00000000#32) reducesTo_S4096x128_S4096_d1 h_S_))))

theorem units_apply (x : FVec Ideal S4096x128 .f32) (r : Fin 4096) (k : Fin 128) : units x (ix2 r k) = unit (rows x r) k := by
  unfold unit sumSq
  pointwise [units]

/-- The products of the rows of two tables. -/
abbrev sims (u v : FVec Ideal S4096x128 .f32) : FVec Ideal S4096x4096 .f32 :=
  Host.dotGeneral dot_S4096x128_S128x4096_S4096x4096_1_0_0_1_n_n none u (transpose S128x4096 [1, 0] v transposes_S4096x128_S128x4096_1_0)

theorem sims_apply (u v : FVec Ideal S4096x128 .f32) (r j : Fin 4096) : sims u v (ix2 r j) = dot (rows u r) (rows v j) := by
  unfold dot
  pointwise [sims]

theorem sims_units (u v : FVec Ideal S4096x128 .f32) (r j : Fin 4096) : sims (units u) (units v) (ix2 r j) = dot (unit (rows u r)) (unit (rows v j)) := by
  rw [sims_apply]
  exact Finset.sum_congr rfl fun k _ => by rw [rows, rows, units_apply, units_apply]

/-- The exponentials, after a division by 1. -/
abbrev expo (s : FVec Ideal S4096x4096 .f32) : FVec Ideal S4096x4096 .f32 :=
  Host.exp (Host.divf s (broadcastInDim S4096x4096 ![] bcast_S_S4096x4096 (constant S_ .f32 0x3F800000#32)))

theorem expo_apply (s : FVec Ideal S4096x4096 .f32) (r j : Fin 4096) : expo s (ix2 r j) = Ideal.exp (s (ix2 r j)) := by
  pointwise [expo]
  rw [Loss.div_one]

/-- The mean of the rows' sums of squares. -/
abbrev meanWide (d : FVec Ideal S4096x4096 .f32) : FVec Ideal S_ .f32 :=
  Host.divf (Host.reduceAdd (Host.reduceAdd (mulf d d) (constant S_ .f32 0x00000000#32) reducesTo_S4096x4096_S4096_d1 h_S_) (constant S_ .f32 0x00000000#32) reducesTo_S4096_S_d0 h_S_)
    (constant S_ .f32 0x45800000#32)

theorem meanWide_apply (d : FVec Ideal S4096x4096 .f32) (i : S_.Idx) :
    meanWide d i = Ideal.div (∑ r : Fin 4096, ∑ j : Fin 4096, d (ix2 r j) * d (ix2 r j)) ((4096 : ℝ) : EReal) := by
  rw [← Consts.ofBits_count]
  pointwise [meanWide]

/-- The same of a table of rows of 128. -/
abbrev mean (d : FVec Ideal S4096x128 .f32) : FVec Ideal S_ .f32 :=
  Host.divf (Host.reduceAdd (Host.reduceAdd (mulf d d) (constant S_ .f32 0x00000000#32) reducesTo_S4096x128_S4096_d1 h_S_) (constant S_ .f32 0x00000000#32) reducesTo_S4096_S_d0 h_S_)
    (constant S_ .f32 0x45800000#32)

theorem mean_apply (d : FVec Ideal S4096x128 .f32) (i : S_.Idx) :
    mean d i = Ideal.div (∑ r : Fin 4096, ∑ k : Fin 128, d (ix2 r k) * d (ix2 r k)) ((4096 : ℝ) : EReal) := by
  rw [← Consts.ofBits_count]
  pointwise [mean]

/-! ## The result -/

/-- The reference of its arguments. -/
abbrev refLoss (x : FVec Ideal S4096x128 .f32) (t : IVec S4096 32) (y : FVec Ideal S4096x128 .f32) : FVec Ideal S_ .f32 :=
  addf (mulf (meanWide (subf (expo (takenWide t (sims (units y) (units y)))) (expo (sims (units x) (units y))))) (constant S_ .f32 0x40000000#32))
    (mulf (mean (subf x (taken t y))) (constant S_ .f32 0x3A83126F#32))

theorem refLoss_apply (x : FVec Ideal S4096x128 .f32) (t : IVec S4096 32) (h : ∀ j, (t j).toNat < 4096) (y : FVec Ideal S4096x128 .f32) (i : S_.Idx) :
    refLoss x t y i = loss ((Consts.weight : ℝ) : EReal) (rows x) (fun r => rows y ⟨(t (ix1 r)).toNat, h _⟩) (rows y) := by
  have hw : ∀ r j, subf (expo (takenWide t (sims (units y) (units y)))) (expo (sims (units x) (units y))) (ix2 r j)
      = Ideal.exp (dot (unit (rows y ⟨(t (ix1 r)).toNat, h _⟩)) (unit (rows y j))) - Ideal.exp (dot (unit (rows x r)) (unit (rows y j))) := fun r j => by
    rw [subf_apply, expo_apply, expo_apply, takenWide_apply t h, sims_units, sims_units]
    rfl
  have hd : ∀ r k, subf x (taken t y) (ix2 r k) = rows x r k - rows y ⟨(t (ix1 r)).toNat, h _⟩ k := fun r k => by
    rw [subf_apply, taken_apply t h]
    rfl
  unfold refLoss
  rw [addf_apply, mulf_apply, mulf_apply, meanWide_apply, mean_apply, loss, ← Consts.ofBits_weight, ← Consts.ofBits_two]
  simp only [hw, hd]
  rfl

theorem result_value (m : (ℓ : Loc nD τ sig) → Buf (Elt Ideal) ℓ) (c : Dev nD)
    (h : ∀ j : S4096.Idx, ((m ((c.tc : Thread nD τ).loc main_arg1) : IVec S4096 32) j).toNat < 4096) (i : S_.Idx) :
    res_main_v30 (F := Ideal) m c i = loss ((Consts.weight : ℝ) : EReal) (rows (m ((c.tc : Thread nD τ).loc main_arg0)))
      (fun r => rows (m ((c.tc : Thread nD τ).loc main_arg3)) ⟨((m ((c.tc : Thread nD τ).loc main_arg1) : IVec S4096 32) (ix1 r)).toNat, h _⟩)
      (rows (m ((c.tc : Thread nD τ).loc main_arg3))) :=
  refLoss_apply (m ((c.tc : Thread nD τ).loc main_arg0)) (m ((c.tc : Thread nD τ).loc main_arg1)) h (m ((c.tc : Thread nD τ).loc main_arg3)) i

end Cert.ReferenceIdeal.Value

end
-- ==== Proof.Preconditions.lean ====
/-
  The precondition of the frames, read: the indices are in range.
-/
module

public import proofs.«01_k».proof.Defs
public import proofs.«01_k».proof.Proof.Gen.Pre_in_range
public import Idealize.ShloMosaic.Lib.Affine
public import Idealize.ShloMosaic.Lib.ReduceAll
public import Idealize.ShloMosaic.Lib.Pointwise

@[expose] public section

noncomputable section

namespace Cert.Preconditions

open Idealize.ShloMosaic

variable {F : FTy → Type} [FloatOps F]

/-- The shapes of the arguments. -/
abbrev S4096 : Shape := ⟨1, ![4096]⟩
abbrev S4096x128 : Shape := ⟨2, ![4096, 128]⟩
abbrev S_ : Shape := ⟨0, ![]⟩

instance : Subsingleton S_.Idx := ⟨fun a b => funext fun i => i.elim0⟩

/-- A word that is at least 0 and below 4096, both as a signed number, is below 4096. -/
theorem word_lt (v : BitVec 32) (h : IntOp.andi (IntOp.cmpi .sge v 0#32) (IntOp.cmpi .slt v 4096#32) = 1#1) : v.toNat < 4096 := by
  obtain ⟨h0, h1⟩ := IntOp.andi_eq_one.1 h
  rw [IntOp.cmpi_sge] at h0
  rw [IntOp.cmpi_slt] at h1
  rw [show (0#32 : BitVec 32).toInt = 0 from rfl] at h0
  rw [show (4096#32 : BitVec 32).toInt = 4096 from rfl] at h1
  rw [BitVec.toInt_eq_toNat_cond] at h0 h1
  split at h0 <;> omega

/-- Under the precondition every index is below 4096. -/
theorem in_range (x : S4096x128.Idx → F .f32) (t : S4096.Idx → BitVec 32) (e : S_.Idx → BitVec 32) (y : S4096x128.Idx → F .f32)
    (h : Cert.Pre_in_range.fn (F := F) x t e y = fun _ => 1#1) (j : S4096.Idx) : (t j).toNat < 4096 := by
  have h0 := congrFun h (fun i => i.elim0)
  dsimp only [Cert.Pre_in_range.fn] at h0
  exact word_lt _ (Host.reduce_andi_all _ _ _ _ _ h0 j)

end Cert.Preconditions

end
-- ==== Proof.NonzeroRows.lean ====
/-
  The precondition of the equality of results, read: the indices are in range, and the rows of both float arguments have a
  positive sum of squares.
-/
module

public import proofs.«01_k».proof.Defs
public import proofs.«01_k».proof.Proof.Preconditions
public import proofs.«01_k».proof.Proof.Gen.Pre_in_range_and_nonzero_rows
public import Idealize.ShloMosaic.Lib.Affine
public import Idealize.ShloMosaic.Lib.ReduceAll
public import Idealize.ShloMosaic.Lib.Pointwise

@[expose] public section

noncomputable section

namespace Cert.Preconditions

open Idealize.ShloMosaic

variable {F : FTy → Type} [FloatOps F]

/-- The precondition's three conjuncts, unopened. -/
theorem conjuncts (x : S4096x128.Idx → F .f32) (t : S4096.Idx → BitVec 32) (e : S_.Idx → BitVec 32) (y : S4096x128.Idx → F .f32)
    (h : Cert.Pre_in_range_and_nonzero_rows.fn (F := F) x t e y = fun _ => 1#1) :
    (∀ j : S4096.Idx, (t j).toNat < 4096)
      ∧ (∀ j : S4096.Idx, cmpf .ogt (Host.reduceAdd (mulf x x) (constant S_ .f32 0x00000000#32) Cert.Pre_in_range_and_nonzero_rows.Facts.reducesTo_S4096x128_S4096_d1 Cert.Pre_in_range_and_nonzero_rows.Facts.h_S_)
          (broadcastInDim S4096 ![] Cert.Pre_in_range_and_nonzero_rows.Facts.bcast_S_S4096 (constant S_ .f32 0x00000000#32)) j = 1#1)
      ∧ (∀ j : S4096.Idx, cmpf .ogt (Host.reduceAdd (mulf y y) (constant S_ .f32 0x00000000#32) Cert.Pre_in_range_and_nonzero_rows.Facts.reducesTo_S4096x128_S4096_d1 Cert.Pre_in_range_and_nonzero_rows.Facts.h_S_)
          (broadcastInDim S4096 ![] Cert.Pre_in_range_and_nonzero_rows.Facts.bcast_S_S4096 (constant S_ .f32 0x00000000#32)) j = 1#1) := by
  have h0 := congrFun h (fun i => i.elim0)
  dsimp only [Cert.Pre_in_range_and_nonzero_rows.fn, Cert.Pre_in_range_and_nonzero_rows.fn_part1] at h0
  obtain ⟨h1, h2⟩ := IntOp.andi_eq_one.1 h0
  obtain ⟨h3, h4⟩ := IntOp.andi_eq_one.1 h2
  exact ⟨fun j => word_lt _ (Host.reduce_andi_all _ _ _ _ _ h1 j), fun j => Host.reduce_andi_all _ _ _ _ _ h3 j, fun j => Host.reduce_andi_all _ _ _ _ _ h4 j⟩

/-- A bit that is 1 is a true one. -/
theorem bit_one (p : Bool) (h : BitVec.ofBool p = 1#1) : p = true := by
  cases p
  · exact absurd h (by decide)
  · rfl

/-- A row's sum of squares that compares greater than zero is positive. -/
theorem row_pos (x : S4096x128.Idx → Ideal .f32) (i : Fin 4096)
    (h : cmpf .ogt (Host.reduceAdd (F := Ideal) (mulf x x) (constant S_ .f32 0x00000000#32) Cert.Pre_in_range_and_nonzero_rows.Facts.reducesTo_S4096x128_S4096_d1 Cert.Pre_in_range_and_nonzero_rows.Facts.h_S_)
          (broadcastInDim S4096 ![] Cert.Pre_in_range_and_nonzero_rows.Facts.bcast_S_S4096 (constant S_ .f32 0x00000000#32)) (ix1 i) = 1#1) :
    0 < ∑ k : Fin 128, x (ix2 i k) * x (ix2 i k) := by
  change BitVec.ofBool (decide (_ < _)) = 1#1 at h
  replace h := bit_one _ h
  rw [decide_eq_true_eq] at h
  pointwise at h
  simpa using h

end Cert.Preconditions

end
-- ==== Proof.lean ====
/-
  The certificate: the frames of the kernel, of its ideal program and of the reference, the idealization's one named
  constant, and the equality of the two programs' results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_and_nonzero_rows
public import proofs.«01_k».proof.Proof.KernelRun
public import proofs.«01_k».proof.Proof.KernelIdealRun
public import proofs.«01_k».proof.Proof.KernelIdealValue
public import proofs.«01_k».proof.Proof.ReferenceIdealValue
public import proofs.«01_k».proof.Proof.NonzeroRows
public import Idealize.ShloMosaic.Adequacy
public import Idealize.ShloMosaic.Init

@[expose] public section

noncomputable section

namespace Cert.Proof

open Idealize.ShloMosaic Idealize.ShloMosaic.TcCoe Idealize.SL.Sem

/-- The kernel runs from every memory whose indices are in range, keeps its arguments and ends with every semaphore at
    zero. -/
theorem frame_kernel : Cert.quiescent_Kernel := fun m ρ hpre =>
  (θ_run Cert.Kernel.defs _ _).mono (fun _ h => ⟨fun c => (h.1 c).1, h.2⟩)
    (Cert.Kernel.Run.run_main (F := Bits) m ρ fun d j => Cert.Preconditions.in_range (F := Bits) _ _ _ _ (hpre d) j)

/-- The same of the ideal program. -/
theorem frame_kernelIdeal : Cert.quiescent_KernelIdeal := fun m ρ hpre =>
  (θ_run Cert.KernelIdeal.defs _ _).mono (fun _ h => ⟨fun c => (h.1 c).1, h.2⟩)
    (Cert.KernelIdeal.Run.run_main (F := Ideal) m ρ fun d j => Cert.Preconditions.in_range (F := Ideal) _ _ _ _ (hpre d) j)

/-- The reference runs from every memory, keeps its arguments, and has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The ideal program's frame, from the precondition of the equality. -/
theorem frame_kernelIdeal_nonzero : Cert.quiescent_KernelIdeal_pre_in_range_and_nonzero_rows := fun m ρ hpre =>
  (θ_run Cert.KernelIdeal.defs _ _).mono (fun _ h => ⟨fun c => (h.1 c).1, h.2⟩)
    (Cert.KernelIdeal.Run.run_main (F := Ideal) m ρ fun d j => (Cert.Preconditions.conjuncts (F := Ideal) _ _ _ _ (hpre d)).1 j)

/-- The reference's frame, from the precondition of the equality. -/
theorem frame_referenceIdeal_nonzero : Cert.quiescent_ReferenceIdeal_pre_in_range_and_nonzero_rows := fun m ρ _ =>
  frame_referenceIdeal m ρ trivial

/-- A word below 4096 names its own row. -/
theorem rowOfWord_of_lt (w : BitVec 32) (h : w.toNat < 4096) : Cert.KernelIdeal.Run.rowOfWord w = ⟨w.toNat, h⟩ :=
  Fin.ext (Nat.mod_eq_of_lt h)

/-- From memories that agree on the arguments the two programs compute the same loss. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_in_range_and_nonzero_rows m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_main_v30 (F := Ideal) m' c = Cert.KernelIdeal.Run.result m c := by
  obtain ⟨ht, hx, hy⟩ := Cert.Preconditions.conjuncts (F := Ideal) _ _ _ _ (hpre c)
  have hx' := fun r => Cert.Preconditions.row_pos _ r (hx (ix1 r))
  have hy' := fun r => Cert.Preconditions.row_pos _ r (hy (ix1 r))
  have ht' := ht
  rw [← h1] at ht'
  funext i
  refine (Cert.ReferenceIdeal.Value.result_value m' c ht' i).trans ?_
  rw [Cert.KernelIdeal.Value.result_value, Cert.Loss.blocked_eq _ _ _ _ hx' (fun r => hy' _) hy']
  simp only [h0, h1, h3, rowOfWord_of_lt _ (ht _)]

/-- The two programs end with equal results over the extended reals, from every memory of the precondition. -/
theorem algebraic : Cert.algebraic_KernelIdeal_ReferenceIdeal_pre_in_range_and_nonzero_rows := fun m ρ m' ρ' hpre hargs =>
  ⟨fun c => Cert.KernelIdeal.Run.result m c,
    (θ_run Cert.KernelIdeal.defs _ _).mono (fun _ h c => ⟨(h.1 c).2, (h.1 c).1⟩)
      (Cert.KernelIdeal.Run.run_main (F := Ideal) m ρ fun d j => (Cert.Preconditions.conjuncts (F := Ideal) _ _ _ _ (hpre d)).1 j),
    (θ_run Cert.ReferenceIdeal.defs _ _).mono (fun _ h c => ⟨(h c).1.trans (results_eq m m' hpre c (hargs c).1 (hargs c).2.1 (hargs c).2.2.2), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts,
  Cert.Pre_in_range_and_nonzero_rows.Gen.facts, frame_kernel, frame_kernelIdeal, frame_kernelIdeal_nonzero, frame_referenceIdeal,
  frame_referenceIdeal_nonzero, IdealRules.named_const.statement _ _ _ _ _ rfl, algebraic⟩

end Cert.Proof

end
